-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_general_position [hPre_general_position : Cert.Pre_general_position.Facts] (m : (ℓ : Loc Cert.KernelIdeal.nD Cert.KernelIdeal.τ Cert.KernelIdeal.sig) → Buf (Elt Ideal) ℓ) : Prop :=
  ∀ c : Dev Cert.KernelIdeal.nD,
    (Cert.Pre_general_position.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_general_position [hPre_general_position : Cert.Pre_general_position.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_general_position.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_general_position [hKernelIdeal : Cert.KernelIdeal.Facts] [hPre_general_position : Cert.Pre_general_position.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_general_position m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_general_position [hReferenceIdeal : Cert.ReferenceIdeal.Facts] [hPre_general_position : Cert.Pre_general_position.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_general_position m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "cot60" .f32 0x3F13CD3A#32 (((Real.sqrt 3)⁻¹ : ℝ) : EReal)
  ∧ IdealRules.named_const.Statement Cert.KernelIdeal.κ "cot120" .f32 0xBF13CD3A#32 ((-((Real.sqrt 3)⁻¹) : ℝ) : EReal)

def algebraic_KernelIdeal_ReferenceIdeal_pre_general_position [hKernelIdeal : Cert.KernelIdeal.Facts] [hReferenceIdeal : Cert.ReferenceIdeal.Facts] [hPre_general_position : Cert.Pre_general_position.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_general_position m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_general_position : Cert.Pre_general_position.Facts),
    quiescent_Kernel (hKernel := hKernel)
    ∧ quiescent_KernelIdeal (hKernelIdeal := hKernelIdeal)
    ∧ quiescent_KernelIdeal_pre_general_position (hKernelIdeal := hKernelIdeal) (hPre_general_position := hPre_general_position)
    ∧ quiescent_ReferenceIdeal (hReferenceIdeal := hReferenceIdeal)
    ∧ quiescent_ReferenceIdeal_pre_general_position (hReferenceIdeal := hReferenceIdeal) (hPre_general_position := hPre_general_position)
    ∧ preserves_Kernel_KernelIdeal
    ∧ algebraic_KernelIdeal_ReferenceIdeal_pre_general_position (hKernelIdeal := hKernelIdeal) (hReferenceIdeal := hReferenceIdeal) (hPre_general_position := hPre_general_position)
-- ==== Pre_general_position.lean ====
abbrev S32x1x512x512 : Shape := ⟨4, ![32, 1, 512, 512]⟩
abbrev S2x1x3x3 : Shape := ⟨4, ![2, 1, 3, 3]⟩
abbrev S3x3 : Shape := ⟨2, ![3, 3]⟩
abbrev S1x3x3 : Shape := ⟨3, ![1, 3, 3]⟩
abbrev S2x3x3 : Shape := ⟨3, ![2, 3, 3]⟩
abbrev S_ : Shape := ⟨0, ![]⟩
abbrev S32x1x1x512 : Shape := ⟨4, ![32, 1, 1, 512]⟩
abbrev S32x1x513x512 : Shape := ⟨4, ![32, 1, 513, 512]⟩
abbrev S32x1x514x512 : Shape := ⟨4, ![32, 1, 514, 512]⟩
abbrev S32x1x514x1 : Shape := ⟨4, ![32, 1, 514, 1]⟩
abbrev S32x1x514x513 : Shape := ⟨4, ![32, 1, 514, 513]⟩
abbrev S32x1x514x514 : Shape := ⟨4, ![32, 1, 514, 514]⟩
abbrev S1x1x1x1 : Shape := ⟨4, ![1, 1, 1, 1]⟩
abbrev S32x512x512 : Shape := ⟨3, ![32, 512, 512]⟩
abbrev S32x2x512x512 : Shape := ⟨4, ![32, 2, 512, 512]⟩

class Facts : Prop where
  transposes_S3x3_S3x3_1_0 : S3x3.Transposes [1, 0] S3x3
  bcast_S3x3_S1x3x3_1_2 : S3x3.BroadcastsInDim S1x3x3 (![1, 2] : Fin 2 → Fin S1x3x3.rank)
  concatenates_S1x3x3_S1x3x3_S2x3x3_d0 : Shape.Concatenates [S1x3x3, S1x3x3] S2x3x3 0
  bcast_S2x3x3_S2x1x3x3_0_2_3 : S2x3x3.BroadcastsInDim S2x1x3x3 (![0, 2, 3] : Fin 3 → Fin S2x1x3x3.rank)
  slices_S32x1x512x512_S32x1x1x512_0_0_0_0 : S32x1x512x512.Slices ![0, 0, 0, 0] S32x1x1x512
  slices_S32x1x512x512_S32x1x1x512_0_0_1_0 : S32x1x512x512.Slices ![0, 0, 1, 0] S32x1x1x512
  concatenates_S32x1x1x512_S32x1x512x512_S32x1x513x512_d2 : Shape.Concatenates [S32x1x1x512, S32x1x512x512] S32x1x513x512 2
  slices_S32x1x513x512_S32x1x1x512_0_0_512_0 : S32x1x513x512.Slices ![0, 0, 512, 0] S32x1x1x512
  slices_S32x1x513x512_S32x1x1x512_0_0_511_0 : S32x1x513x512.Slices ![0, 0, 511, 0] S32x1x1x512
  concatenates_S32x1x513x512_S32x1x1x512_S32x1x514x512_d2 : Shape.Concatenates [S32x1x513x512, S32x1x1x512] S32x1x514x512 2
  slices_S32x1x514x512_S32x1x514x1_0_0_0_0 : S32x1x514x512.Slices ![0, 0, 0, 0] S32x1x514x1
  slices_S32x1x514x512_S32x1x514x1_0_0_0_1 : S32x1x514x512.Slices ![0, 0, 0, 1] S32x1x514x1
  concatenates_S32x1x514x1_S32x1x514x512_S32x1x514x513_d3 : Shape.Concatenates [S32x1x514x1, S32x1x514x512] S32x1x514x513 3
  slices_S32x1x514x513_S32x1x514x1_0_0_0_512 : S32x1x514x513.Slices ![0, 0, 0, 512] S32x1x514x1
  slices_S32x1x514x513_S32x1x514x1_0_0_0_511 : S32x1x514x513.Slices ![0, 0, 0, 511] S32x1x514x1
  concatenates_S32x1x514x513_S32x1x514x1_S32x1x514x514_d3 : Shape.Concatenates [S32x1x514x513, S32x1x514x1] S32x1x514x514 3
  slices_S2x1x3x3_S1x1x1x1_0_0_0_0 : S2x1x3x3.Slices ![0, 0, 0, 0] S1x1x1x1
  shapeCasts_S1x1x1x1_S_ : S1x1x1x1.ShapeCasts S_
  slices_S32x1x514x514_S32x1x512x512_0_0_0_0 : S32x1x514x514.Slices ![0, 0, 0, 0] S32x1x512x512
  shapeCasts_S32x1x512x512_S32x512x512 : S32x1x512x512.ShapeCasts S32x512x512
  bcast_S_S32x512x512 : S_.BroadcastsInDim S32x512x512 (![] : Fin 0 → Fin S32x512x512.rank)
  slices_S2x1x3x3_S1x1x1x1_0_0_0_1 : S2x1x3x3.Slices ![0, 0, 0, 1] S1x1x1x1
  slices_S32x1x514x514_S32x1x512x512_0_0_0_1 : S32x1x514x514.Slices ![0, 0, 0, 1] S32x1x512x512
  slices_S2x1x3x3_S1x1x1x1_0_0_0_2 : S2x1x3x3.Slices ![0, 0, 0, 2] S1x1x1x1
  slices_S32x1x514x514_S32x1x512x512_0_0_0_2 : S32x1x514x514.Slices ![0, 0, 0, 2] S32x1x512x512
  slices_S2x1x3x3_S1x1x1x1_0_0_1_0 : S2x1x3x3.Slices ![0, 0, 1, 0] S1x1x1x1
  slices_S32x1x514x514_S32x1x512x512_0_0_1_0 : S32x1x514x514.Slices ![0, 0, 1, 0] S32x1x512x512
  slices_S2x1x3x3_S1x1x1x1_0_0_1_1 : S2x1x3x3.Slices ![0, 0, 1, 1] S1x1x1x1
  slices_S32x1x514x514_S32x1x512x512_0_0_1_1 : S32x1x514x514.Slices ![0, 0, 1, 1] S32x1x512x512
  slices_S2x1x3x3_S1x1x1x1_0_0_1_2 : S2x1x3x3.Slices ![0, 0, 1, 2] S1x1x1x1
  slices_S32x1x514x514_S32x1x512x512_0_0_1_2 : S32x1x514x514.Slices ![0, 0, 1, 2] S32x1x512x512
  slices_S2x1x3x3_S1x1x1x1_0_0_2_0 : S2x1x3x3.Slices ![0, 0, 2, 0] S1x1x1x1
  slices_S32x1x514x514_S32x1x512x512_0_0_2_0 : S32x1x514x514.Slices ![0, 0, 2, 0] S32x1x512x512
  slices_S2x1x3x3_S1x1x1x1_0_0_2_1 : S2x1x3x3.Slices ![0, 0, 2, 1] S1x1x1x1
  slices_S32x1x514x514_S32x1x512x512_0_0_2_1 : S32x1x514x514.Slices ![0, 0, 2, 1] S32x1x512x512
  slices_S2x1x3x3_S1x1x1x1_0_0_2_2 : S2x1x3x3.Slices ![0, 0, 2, 2] S1x1x1x1
  slices_S32x1x514x514_S32x1x512x512_0_0_2_2 : S32x1x514x514.Slices ![0, 0, 2, 2] S32x1x512x512
  slices_S2x1x3x3_S1x1x1x1_1_0_0_0 : S2x1x3x3.Slices ![1, 0, 0, 0] S1x1x1x1
  slices_S2x1x3x3_S1x1x1x1_1_0_0_1 : S2x1x3x3.Slices ![1, 0, 0, 1] S1x1x1x1
  slices_S2x1x3x3_S1x1x1x1_1_0_0_2 : S2x1x3x3.Slices ![1, 0, 0, 2] S1x1x1x1
  slices_S2x1x3x3_S1x1x1x1_1_0_1_0 : S2x1x3x3.Slices ![1, 0, 1, 0] S1x1x1x1
  slices_S2x1x3x3_S1x1x1x1_1_0_1_1 : S2x1x3x3.Slices ![1, 0, 1, 1] S1x1x1x1
  slices_S2x1x3x3_S1x1x1x1_1_0_1_2 : S2x1x3x3.Slices ![1, 0, 1, 2] S1x1x1x1
  slices_S2x1x3x3_S1x1x1x1_1_0_2_0 : S2x1x3x3.Slices ![1, 0, 2, 0] S1x1x1x1
  slices_S2x1x3x3_S1x1x1x1_1_0_2_1 : S2x1x3x3.Slices ![1, 0, 2, 1] S1x1x1x1
  slices_S2x1x3x3_S1x1x1x1_1_0_2_2 : S2x1x3x3.Slices ![1, 0, 2, 2] S1x1x1x1
  bcast_S32x512x512_S32x1x512x512_0_2_3 : S32x512x512.BroadcastsInDim S32x1x512x512 (![0, 2, 3] : Fin 3 → Fin S32x1x512x512.rank)
  concatenates_S32x1x512x512_S32x1x512x512_S32x2x512x512_d1 : Shape.Concatenates [S32x1x512x512, S32x1x512x512] S32x2x512x512 1
  slices_S32x2x512x512_S32x1x512x512_0_0_0_0 : S32x2x512x512.Slices ![0, 0, 0, 0] S32x1x512x512
  slices_S32x2x512x512_S32x1x512x512_0_1_0_0 : S32x2x512x512.Slices ![0, 1, 0, 0] S32x1x512x512
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel
  reducesTo_S2x1x3x3_S_d0_1_2_3 : S2x1x3x3.ReducesTo [0, 1, 2, 3] S_
  reducesTo_S32x512x512_S_d0_1_2 : S32x512x512.ReducesTo [0, 1, 2] S_

variable [Facts]

noncomputable abbrev lit0 : Fin 9 → BitVec 32 := fun
  | 0 => 0x3F800000#32 | 1 => 0x00000000#32 | 2 => 0xBF800000#32 | 3 => 0x40000000#32 | 4 => 0x00000000#32 | 5 => 0xC0000000#32 | 6 => 0x3F800000#32 | 7 => 0x00000000#32
  | 8 => 0xBF800000#32
  | _ => 0#32

def fn_flip {F : FTy → Type} [FloatOps F] (arg0 : FVec F S32x1x1x512 .f32) : FVec F S32x1x1x512 .f32 :=
  let v0 : FVec F S32x1x1x512 .f32 := Host.reverse [2] arg0
  v0

def fn_flip_0 {F : FTy → Type} [FloatOps F] (arg0 : FVec F S32x1x514x1 .f32) : FVec F S32x1x514x1 .f32 :=
  let v0 : FVec F S32x1x514x1 .f32 := Host.reverse [3] arg0
  v0

def fn_pad {F : FTy → Type} [FloatOps F] (arg0 : FVec F S32x1x512x512 .f32) (arg1 : IVec S_ 32) : FVec F S32x1x514x514 .f32 :=
  let v0 : FVec F S32x1x1x512 .f32 := (extractStridedSlice S32x1x1x512 ![0, 0, 0, 0] · slices_S32x1x512x512_S32x1x1x512_0_0_0_0) arg0
  let v1 : FVec F S32x1x1x512 .f32 := (extractStridedSlice S32x1x1x512 ![0, 0, 1, 0] · slices_S32x1x512x512_S32x1x1x512_0_0_1_0) arg0
  let v2 : FVec F S32x1x1x512 .f32 := fn_flip (F := F) v1
  let v3 : FVec F S32x1x513x512 .f32 := (fun a b => concatenate S32x1x513x512 2 [⟨S32x1x1x512, a⟩, ⟨S32x1x512x512, b⟩] concatenates_S32x1x1x512_S32x1x512x512_S32x1x513x512_d2) v2 arg0
  let v4 : FVec F S32x1x1x512 .f32 := (extractStridedSlice S32x1x1x512 ![0, 0, 512, 0] · slices_S32x1x513x512_S32x1x1x512_0_0_512_0) v3
  let v5 : FVec F S32x1x1x512 .f32 := (extractStridedSlice S32x1x1x512 ![0, 0, 511, 0] · slices_S32x1x513x512_S32x1x1x512_0_0_511_0) v3
  let v6 : FVec F S32x1x1x512 .f32 := fn_flip (F := F) v5
  let v7 : FVec F S32x1x514x512 .f32 := (fun a b => concatenate S32x1x514x512 2 [⟨S32x1x513x512, a⟩, ⟨S32x1x1x512, b⟩] concatenates_S32x1x513x512_S32x1x1x512_S32x1x514x512_d2) v3 v6
  let v8 : FVec F S32x1x514x1 .f32 := (extractStridedSlice S32x1x514x1 ![0, 0, 0, 0] · slices_S32x1x514x512_S32x1x514x1_0_0_0_0) v7
  let v9 : FVec F S32x1x514x1 .f32 := (extractStridedSlice S32x1x514x1 ![0, 0, 0, 1] · slices_S32x1x514x512_S32x1x514x1_0_0_0_1) v7
  let v10 : FVec F S32x1x514x1 .f32 := fn_flip_0 (F := F) v9
  let v11 : FVec F S32x1x514x513 .f32 := (fun a b => concatenate S32x1x514x513 3 [⟨S32x1x514x1, a⟩, ⟨S32x1x514x512, b⟩] concatenates_S32x1x514x1_S32x1x514x512_S32x1x514x513_d3) v10 v7
  let v12 : FVec F S32x1x514x1 .f32 := (extractStridedSlice S32x1x514x1 ![0, 0, 0, 512] · slices_S32x1x514x513_S32x1x514x1_0_0_0_512) v11
  let v13 : FVec F S32x1x514x1 .f32 := (extractStridedSlice S32x1x514x1 ![0, 0, 0, 511] · slices_S32x1x514x513_S32x1x514x1_0_0_0_511) v11
  let v14 : FVec F S32x1x514x1 .f32 := fn_flip_0 (F := F) v13
  let v15 : FVec F S32x1x514x514 .f32 := (fun a b => concatenate S32x1x514x514 3 [⟨S32x1x514x513, a⟩, ⟨S32x1x514x1, b⟩] concatenates_S32x1x514x513_S32x1x514x1_S32x1x514x514_d3) v11 v14
  v15

def fn_part13 {F : FTy → Type} [FloatOps F] (main_v138 : FVec F S32x512x512 .f32) (main_v262 : IVec S_ 1) (main_v265 : FVec F S_ .f32) (main_v268 : FVec F S32x512x512 .f32) (main_v271 : FVec F S32x512x512 .f32) : IVec S_ 1 :=
  let main_v272 : FVec F S32x512x512 .f32 := subf main_v268 main_v271
  let main_v273 : FVec F S32x512x512 .f32 := Host.absf main_v272
  let main_v274 : FVec F S_ .f32 := Host.cos main_v265
  let main_v275 : FVec F S32x512x512 .f32 := broadcastInDim S32x512x512 ![] bcast_S_S32x512x512 main_v274
  let main_v276 : FVec F S32x512x512 .f32 := mulf main_v138 main_v275
  let main_v277 : FVec F S32x512x512 .f32 := Host.absf main_v276
  let main_cst_38 : FVec F S_ .f32 := constant S_ .f32 0x33800000#32
  let main_v278 : FVec F S32x512x512 .f32 := broadcastInDim S32x512x512 ![] bcast_S_S32x512x512 main_cst_38
  let main_v279 : FVec F S32x512x512 .f32 := mulf main_v278 main_v277
  let main_v280 : IVec S32x512x512 1 := cmpf .ogt main_v273 main_v279
  let main_cst_39 : FVec F S_ .f32 := constant S_ .f32 0x00000000#32
  let main_v281 : FVec F S32x512x512 .f32 := broadcastInDim S32x512x512 ![] bcast_S_S32x512x512 main_cst_39
  let main_v282 : IVec S32x512x512 1 := cmpf .oeq main_v138 main_v281
  let main_v283 : IVec S32x512x512 1 := ori main_v282 main_v280
  let main_c_40 : IVec S_ 1 := constantI S_ 1 1#1
  let main_v284 : IVec S_ 1 := (fun x v => Host.reduce IntOp.andi x v reducesTo_S32x512x512_S_d0_1_2 h_S_) main_v283 main_c_40
  let main_v285 : IVec S_ 1 := andi main_v262 main_v284
  main_v285

def fn_part12 {F : FTy → Type} [FloatOps F] (main_v138 : FVec F S32x512x512 .f32) (main_v140 : FVec F S32x512x512 .f32) (main_v239 : IVec S_ 1) (main_v250 : FVec F S32x512x512 .f32) (main_v253 : FVec F S32x512x512 .f32) : IVec S_ 1 :=
  let main_v254 : FVec F S32x512x512 .f32 := Host.absf main_v253
  let main_cst_32 : FVec F S_ .f32 := constant S_ .f32 0x33800000#32
  let main_v255 : FVec F S32x512x512 .f32 := broadcastInDim S32x512x512 ![] bcast_S_S32x512x512 main_cst_32
  let main_v256 : FVec F S32x512x512 .f32 := mulf main_v255 main_v254
  let main_v257 : IVec S32x512x512 1 := cmpf .ogt main_v250 main_v256
  let main_cst_33 : FVec F S_ .f32 := constant S_ .f32 0x00000000#32
  let main_v258 : FVec F S32x512x512 .f32 := broadcastInDim S32x512x512 ![] bcast_S_S32x512x512 main_cst_33
  let main_v259 : IVec S32x512x512 1 := cmpf .oeq main_v138 main_v258
  let main_v260 : IVec S32x512x512 1 := ori main_v259 main_v257
  let main_c_34 : IVec S_ 1 := constantI S_ 1 1#1
  let main_v261 : IVec S_ 1 := (fun x v => Host.reduce IntOp.andi x v reducesTo_S32x512x512_S_d0_1_2 h_S_) main_v260 main_c_34
  let main_v262 : IVec S_ 1 := andi main_v239 main_v261
  let main_cst_35 : FVec F S_ .f32 := constant S_ .f32 0xBF800000#32
  let main_v263 : FVec F S_ .f32 := Host.acos main_cst_35
  let main_cst_36 : FVec F S_ .f32 := constant S_ .f32 0x41000000#32
  let main_v264 : FVec F S_ .f32 := mulf main_v263 main_cst_36
  let main_cst_37 : FVec F S_ .f32 := constant S_ .f32 0x41100000#32
  let main_v265 : FVec F S_ .f32 := Host.divf main_v264 main_cst_37
  let main_v266 : FVec F S_ .f32 := Host.sin main_v265
  let main_v267 : FVec F S32x512x512 .f32 := broadcastInDim S32x512x512 ![] bcast_S_S32x512x512 main_v266
  let main_v268 : FVec F S32x512x512 .f32 := mulf main_v140 main_v267
  let main_v269 : FVec F S_ .f32 := Host.cos main_v265
  let main_v270 : FVec F S32x512x512 .f32 := broadcastInDim S32x512x512 ![] bcast_S_S32x512x512 main_v269
  let main_v271 : FVec F S32x512x512 .f32 := mulf main_v138 main_v270
  fn_part13 (F := F) main_v138 main_v262 main_v265 main_v268 main_v271

def fn_part11 {F : FTy → Type} [FloatOps F] (main_v138 : FVec F S32x512x512 .f32) (main_v140 : FVec F S32x512x512 .f32) (main_v216 : IVec S_ 1) (main_v234 : IVec S32x512x512 1) : IVec S_ 1 :=
  let main_cst_27 : FVec F S_ .f32 := constant S_ .f32 0x00000000#32
  let main_v235 : FVec F S32x512x512 .f32 := broadcastInDim S32x512x512 ![] bcast_S_S32x512x512 main_cst_27
  let main_v236 : IVec S32x512x512 1 := cmpf .oeq main_v138 main_v235
  let main_v237 : IVec S32x512x512 1 := ori main_v236 main_v234
  let main_c_28 : IVec S_ 1 := constantI S_ 1 1#1
  let main_v238 : IVec S_ 1 := (fun x v => Host.reduce IntOp.andi x v reducesTo_S32x512x512_S_d0_1_2 h_S_) main_v237 main_c_28
  let main_v239 : IVec S_ 1 := andi main_v216 main_v238
  let main_cst_29 : FVec F S_ .f32 := constant S_ .f32 0xBF800000#32
  let main_v240 : FVec F S_ .f32 := Host.acos main_cst_29
  let main_cst_30 : FVec F S_ .f32 := constant S_ .f32 0x40E00000#32
  let main_v241 : FVec F S_ .f32 := mulf main_v240 main_cst_30
  let main_cst_31 : FVec F S_ .f32 := constant S_ .f32 0x41100000#32
  let main_v242 : FVec F S_ .f32 := Host.divf main_v241 main_cst_31
  let main_v243 : FVec F S_ .f32 := Host.sin main_v242
  let main_v244 : FVec F S32x512x512 .f32 := broadcastInDim S32x512x512 ![] bcast_S_S32x512x512 main_v243
  let main_v245 : FVec F S32x512x512 .f32 := mulf main_v140 main_v244
  let main_v246 : FVec F S_ .f32 := Host.cos main_v242
  let main_v247 : FVec F S32x512x512 .f32 := broadcastInDim S32x512x512 ![] bcast_S_S32x512x512 main_v246
  let main_v248 : FVec F S32x512x512 .f32 := mulf main_v138 main_v247
  let main_v249 : FVec F S32x512x512 .f32 := subf main_v245 main_v248
  let main_v250 : FVec F S32x512x512 .f32 := Host.absf main_v249
  let main_v251 : FVec F S_ .f32 := Host.cos main_v242
  let main_v252 : FVec F S32x512x512 .f32 := broadcastInDim S32x512x512 ![] bcast_S_S32x512x512 main_v251
  let main_v253 : FVec F S32x512x512 .f32 := mulf main_v138 main_v252
  fn_part12 (F := F) main_v138 main_v140 main_v239 main_v250 main_v253

def fn_part10 {F : FTy → Type} [FloatOps F] (main_v138 : FVec F S32x512x512 .f32) (main_v140 : FVec F S32x512x512 .f32) (main_v193 : IVec S_ 1) (main_v214 : IVec S32x512x512 1) (main_c_22 : IVec S_ 1) : IVec S_ 1 :=
  let main_v215 : IVec S_ 1 := (fun x v => Host.reduce IntOp.andi x v reducesTo_S32x512x512_S_d0_1_2 h_S_) main_v214 main_c_22
  let main_v216 : IVec S_ 1 := andi main_v193 main_v215
  let main_cst_23 : FVec F S_ .f32 := constant S_ .f32 0xBF800000#32
  let main_v217 : FVec F S_ .f32 := Host.acos main_cst_23
  let main_cst_24 : FVec F S_ .f32 := constant S_ .f32 0x40A00000#32
  let main_v218 : FVec F S_ .f32 := mulf main_v217 main_cst_24
  let main_cst_25 : FVec F S_ .f32 := constant S_ .f32 0x41100000#32
  let main_v219 : FVec F S_ .f32 := Host.divf main_v218 main_cst_25
  let main_v220 : FVec F S_ .f32 := Host.sin main_v219
  let main_v221 : FVec F S32x512x512 .f32 := broadcastInDim S32x512x512 ![] bcast_S_S32x512x512 main_v220
  let main_v222 : FVec F S32x512x512 .f32 := mulf main_v140 main_v221
  let main_v223 : FVec F S_ .f32 := Host.cos main_v219
  let main_v224 : FVec F S32x512x512 .f32 := broadcastInDim S32x512x512 ![] bcast_S_S32x512x512 main_v223
  let main_v225 : FVec F S32x512x512 .f32 := mulf main_v138 main_v224
  let main_v226 : FVec F S32x512x512 .f32 := subf main_v222 main_v225
  let main_v227 : FVec F S32x512x512 .f32 := Host.absf main_v226
  let main_v228 : FVec F S_ .f32 := Host.cos main_v219
  let main_v229 : FVec F S32x512x512 .f32 := broadcastInDim S32x512x512 ![] bcast_S_S32x512x512 main_v228
  let main_v230 : FVec F S32x512x512 .f32 := mulf main_v138 main_v229
  let main_v231 : FVec F S32x512x512 .f32 := Host.absf main_v230
  let main_cst_26 : FVec F S_ .f32 := constant S_ .f32 0x33800000#32
  let main_v232 : FVec F S32x512x512 .f32 := broadcastInDim S32x512x512 ![] bcast_S_S32x512x512 main_cst_26
  let main_v233 : FVec F S32x512x512 .f32 := mulf main_v232 main_v231
  let main_v234 : IVec S32x512x512 1 := cmpf .ogt main_v227 main_v233
  fn_part11 (F := F) main_v138 main_v140 main_v216 main_v234

def fn_part9 {F : FTy → Type} [FloatOps F] (main_v138 : FVec F S32x512x512 .f32) (main_v140 : FVec F S32x512x512 .f32) (main_v193 : IVec S_ 1) (main_v194 : FVec F S_ .f32) (main_cst_18 : FVec F S_ .f32) : IVec S_ 1 :=
  let main_v195 : FVec F S_ .f32 := mulf main_v194 main_cst_18
  let main_cst_19 : FVec F S_ .f32 := constant S_ .f32 0x41100000#32
  let main_v196 : FVec F S_ .f32 := Host.divf main_v195 main_cst_19
  let main_v197 : FVec F S_ .f32 := Host.sin main_v196
  let main_v198 : FVec F S32x512x512 .f32 := broadcastInDim S32x512x512 ![] bcast_S_S32x512x512 main_v197
  let main_v199 : FVec F S32x512x512 .f32 := mulf main_v140 main_v198
  let main_v200 : FVec F S_ .f32 := Host.cos main_v196
  let main_v201 : FVec F S32x512x512 .f32 := broadcastInDim S32x512x512 ![] bcast_S_S32x512x512 main_v200
  let main_v202 : FVec F S32x512x512 .f32 := mulf main_v138 main_v201
  let main_v203 : FVec F S32x512x512 .f32 := subf main_v199 main_v202
  let main_v204 : FVec F S32x512x512 .f32 := Host.absf main_v203
  let main_v205 : FVec F S_ .f32 := Host.cos main_v196
  let main_v206 : FVec F S32x512x512 .f32 := broadcastInDim S32x512x512 ![] bcast_S_S32x512x512 main_v205
  let main_v207 : FVec F S32x512x512 .f32 := mulf main_v138 main_v206
  let main_v208 : FVec F S32x512x512 .f32 := Host.absf main_v207
  let main_cst_20 : FVec F S_ .f32 := constant S_ .f32 0x33800000#32
  let main_v209 : FVec F S32x512x512 .f32 := broadcastInDim S32x512x512 ![] bcast_S_S32x512x512 main_cst_20
  let main_v210 : FVec F S32x512x512 .f32 := mulf main_v209 main_v208
  let main_v211 : IVec S32x512x512 1 := cmpf .ogt main_v204 main_v210
  let main_cst_21 : FVec F S_ .f32 := constant S_ .f32 0x00000000#32
  let main_v212 : FVec F S32x512x512 .f32 := broadcastInDim S32x512x512 ![] bcast_S_S32x512x512 main_cst_21
  let main_v213 : IVec S32x512x512 1 := cmpf .oeq main_v138 main_v212
  let main_v214 : IVec S32x512x512 1 := ori main_v213 main_v211
  let main_c_22 : IVec S_ 1 := constantI S_ 1 1#1
  fn_part10 (F := F) main_v138 main_v140 main_v193 main_v214 main_c_22

def fn_part8 {F : FTy → Type} [FloatOps F] (main_v138 : FVec F S32x512x512 .f32) (main_v140 : FVec F S32x512x512 .f32) (main_v170 : IVec S_ 1) (main_v173 : FVec F S_ .f32) (main_v175 : FVec F S32x512x512 .f32) : IVec S_ 1 :=
  let main_v176 : FVec F S32x512x512 .f32 := mulf main_v140 main_v175
  let main_v177 : FVec F S_ .f32 := Host.cos main_v173
  let main_v178 : FVec F S32x512x512 .f32 := broadcastInDim S32x512x512 ![] bcast_S_S32x512x512 main_v177
  let main_v179 : FVec F S32x512x512 .f32 := mulf main_v138 main_v178
  let main_v180 : FVec F S32x512x512 .f32 := subf main_v176 main_v179
  let main_v181 : FVec F S32x512x512 .f32 := Host.absf main_v180
  let main_v182 : FVec F S_ .f32 := Host.cos main_v173
  let main_v183 : FVec F S32x512x512 .f32 := broadcastInDim S32x512x512 ![] bcast_S_S32x512x512 main_v182
  let main_v184 : FVec F S32x512x512 .f32 := mulf main_v138 main_v183
  let main_v185 : FVec F S32x512x512 .f32 := Host.absf main_v184
  let main_cst_14 : FVec F S_ .f32 := constant S_ .f32 0x33800000#32
  let main_v186 : FVec F S32x512x512 .f32 := broadcastInDim S32x512x512 ![] bcast_S_S32x512x512 main_cst_14
  let main_v187 : FVec F S32x512x512 .f32 := mulf main_v186 main_v185
  let main_v188 : IVec S32x512x512 1 := cmpf .ogt main_v181 main_v187
  let main_cst_15 : FVec F S_ .f32 := constant S_ .f32 0x00000000#32
  let main_v189 : FVec F S32x512x512 .f32 := broadcastInDim S32x512x512 ![] bcast_S_S32x512x512 main_cst_15
  let main_v190 : IVec S32x512x512 1 := cmpf .oeq main_v138 main_v189
  let main_v191 : IVec S32x512x512 1 := ori main_v190 main_v188
  let main_c_16 : IVec S_ 1 := constantI S_ 1 1#1
  let main_v192 : IVec S_ 1 := (fun x v => Host.reduce IntOp.andi x v reducesTo_S32x512x512_S_d0_1_2 h_S_) main_v191 main_c_16
  let main_v193 : IVec S_ 1 := andi main_v170 main_v192
  let main_cst_17 : FVec F S_ .f32 := constant S_ .f32 0xBF800000#32
  let main_v194 : FVec F S_ .f32 := Host.acos main_cst_17
  let main_cst_18 : FVec F S_ .f32 := constant S_ .f32 0x40800000#32
  fn_part9 (F := F) main_v138 main_v140 main_v193 main_v194 main_cst_18

def fn_part7 {F : FTy → Type} [FloatOps F] (main_v138 : FVec F S32x512x512 .f32) (main_v140 : FVec F S32x512x512 .f32) (main_v147 : IVec S_ 1) (main_v150 : FVec F S_ .f32) (main_v157 : FVec F S32x512x512 .f32) : IVec S_ 1 :=
  let main_v158 : FVec F S32x512x512 .f32 := Host.absf main_v157
  let main_v159 : FVec F S_ .f32 := Host.cos main_v150
  let main_v160 : FVec F S32x512x512 .f32 := broadcastInDim S32x512x512 ![] bcast_S_S32x512x512 main_v159
  let main_v161 : FVec F S32x512x512 .f32 := mulf main_v138 main_v160
  let main_v162 : FVec F S32x512x512 .f32 := Host.absf main_v161
  let main_cst_8 : FVec F S_ .f32 := constant S_ .f32 0x33800000#32
  let main_v163 : FVec F S32x512x512 .f32 := broadcastInDim S32x512x512 ![] bcast_S_S32x512x512 main_cst_8
  let main_v164 : FVec F S32x512x512 .f32 := mulf main_v163 main_v162
  let main_v165 : IVec S32x512x512 1 := cmpf .ogt main_v158 main_v164
  let main_cst_9 : FVec F S_ .f32 := constant S_ .f32 0x00000000#32
  let main_v166 : FVec F S32x512x512 .f32 := broadcastInDim S32x512x512 ![] bcast_S_S32x512x512 main_cst_9
  let main_v167 : IVec S32x512x512 1 := cmpf .oeq main_v138 main_v166
  let main_v168 : IVec S32x512x512 1 := ori main_v167 main_v165
  let main_c_10 : IVec S_ 1 := constantI S_ 1 1#1
  let main_v169 : IVec S_ 1 := (fun x v => Host.reduce IntOp.andi x v reducesTo_S32x512x512_S_d0_1_2 h_S_) main_v168 main_c_10
  let main_v170 : IVec S_ 1 := andi main_v147 main_v169
  let main_cst_11 : FVec F S_ .f32 := constant S_ .f32 0xBF800000#32
  let main_v171 : FVec F S_ .f32 := Host.acos main_cst_11
  let main_cst_12 : FVec F S_ .f32 := constant S_ .f32 0x40000000#32
  let main_v172 : FVec F S_ .f32 := mulf main_v171 main_cst_12
  let main_cst_13 : FVec F S_ .f32 := constant S_ .f32 0x41100000#32
  let main_v173 : FVec F S_ .f32 := Host.divf main_v172 main_cst_13
  let main_v174 : FVec F S_ .f32 := Host.sin main_v173
  let main_v175 : FVec F S32x512x512 .f32 := broadcastInDim S32x512x512 ![] bcast_S_S32x512x512 main_v174
  fn_part8 (F := F) main_v138 main_v140 main_v170 main_v173 main_v175

def fn_part6 {F : FTy → Type} [FloatOps F] (main_arg0 : FVec F S32x1x512x512 .f32) (main_arg1 : FVec F S2x1x3x3 .f32) (main_v4 : FVec F S2x1x3x3 .f32) (main_v138 : FVec F S32x512x512 .f32) (main_v139 : FVec F S32x1x512x512 .f32) : IVec S_ 1 :=
  let main_v140 : FVec F S32x512x512 .f32 := shapeCast S32x512x512 main_v139 shapeCasts_S32x1x512x512_S32x512x512
  let main_v141 : FVec F S32x1x512x512 .f32 := Host.absf main_arg0
  let main_cst_2 : FVec F S_ .f32 := constant S_ .f32 0x7F800000#32
  let main_v142 : FVec F S32x1x512x512 .f32 := broadcastInDim S32x1x512x512 ![] bcast_S_S32x1x512x512 main_cst_2
  let main_v143 : IVec S32x1x512x512 1 := cmpf .olt main_v141 main_v142
  let main_c_3 : IVec S_ 1 := constantI S_ 1 1#1
  let main_v144 : IVec S_ 1 := (fun x v => Host.reduce IntOp.andi x v reducesTo_S32x1x512x512_S_d0_1_2_3 h_S_) main_v143 main_c_3
  let main_v145 : IVec S2x1x3x3 1 := cmpf .oeq main_arg1 main_v4
  let main_c_4 : IVec S_ 1 := constantI S_ 1 1#1
  let main_v146 : IVec S_ 1 := (fun x v => Host.reduce IntOp.andi x v reducesTo_S2x1x3x3_S_d0_1_2_3 h_S_) main_v145 main_c_4
  let main_v147 : IVec S_ 1 := andi main_v144 main_v146
  let main_cst_5 : FVec F S_ .f32 := constant S_ .f32 0xBF800000#32
  let main_v148 : FVec F S_ .f32 := Host.acos main_cst_5
  let main_cst_6 : FVec F S_ .f32 := constant S_ .f32 0x3F800000#32
  let main_v149 : FVec F S_ .f32 := mulf main_v148 main_cst_6
  let main_cst_7 : FVec F S_ .f32 := constant S_ .f32 0x41100000#32
  let main_v150 : FVec F S_ .f32 := Host.divf main_v149 main_cst_7
  let main_v151 : FVec F S_ .f32 := Host.sin main_v150
  let main_v152 : FVec F S32x512x512 .f32 := broadcastInDim S32x512x512 ![] bcast_S_S32x512x512 main_v151
  let main_v153 : FVec F S32x512x512 .f32 := mulf main_v140 main_v152
  let main_v154 : FVec F S_ .f32 := Host.cos main_v150
  let main_v155 : FVec F S32x512x512 .f32 := broadcastInDim S32x512x512 ![] bcast_S_S32x512x512 main_v154
  let main_v156 : FVec F S32x512x512 .f32 := mulf main_v138 main_v155
  let main_v157 : FVec F S32x512x512 .f32 := subf main_v153 main_v156
  fn_part7 (F := F) main_v138 main_v140 main_v147 main_v150 main_v157

def fn_part5 {F : FTy → Type} [FloatOps F] (main_arg0 : FVec F S32x1x512x512 .f32) (main_arg1 : FVec F S2x1x3x3 .f32) (main_v4 : FVec F S2x1x3x3 .f32) (main_v5 : FVec F S32x1x514x514 .f32) (main_v69 : FVec F S32x512x512 .f32) (main_v112 : FVec F S32x512x512 .f32) (main_v114 : FVec F S_ .f32) (main_v115 : FVec F S32x1x512x512 .f32) : IVec S_ 1 :=
  let main_v116 : FVec F S32x512x512 .f32 := shapeCast S32x512x512 main_v115 shapeCasts_S32x1x512x512_S32x512x512
  let main_v117 : FVec F S32x512x512 .f32 := broadcastInDim S32x512x512 ![] bcast_S_S32x512x512 main_v114
  let main_v118 : FVec F S32x512x512 .f32 := mulf main_v117 main_v116
  let main_v119 : FVec F S32x512x512 .f32 := addf main_v112 main_v118
  let main_v120 : FVec F S1x1x1x1 .f32 := (extractStridedSlice S1x1x1x1 ![1, 0, 2, 1] · slices_S2x1x3x3_S1x1x1x1_1_0_2_1) main_arg1
  let main_v121 : FVec F S_ .f32 := shapeCast S_ main_v120 shapeCasts_S1x1x1x1_S_
  let main_v122 : FVec F S32x1x512x512 .f32 := (extractStridedSlice S32x1x512x512 ![0, 0, 2, 1] · slices_S32x1x514x514_S32x1x512x512_0_0_2_1) main_v5
  let main_v123 : FVec F S32x512x512 .f32 := shapeCast S32x512x512 main_v122 shapeCasts_S32x1x512x512_S32x512x512
  let main_v124 : FVec F S32x512x512 .f32 := broadcastInDim S32x512x512 ![] bcast_S_S32x512x512 main_v121
  let main_v125 : FVec F S32x512x512 .f32 := mulf main_v124 main_v123
  let main_v126 : FVec F S32x512x512 .f32 := addf main_v119 main_v125
  let main_v127 : FVec F S1x1x1x1 .f32 := (extractStridedSlice S1x1x1x1 ![1, 0, 2, 2] · slices_S2x1x3x3_S1x1x1x1_1_0_2_2) main_arg1
  let main_v128 : FVec F S_ .f32 := shapeCast S_ main_v127 shapeCasts_S1x1x1x1_S_
  let main_v129 : FVec F S32x1x512x512 .f32 := (extractStridedSlice S32x1x512x512 ![0, 0, 2, 2] · slices_S32x1x514x514_S32x1x512x512_0_0_2_2) main_v5
  let main_v130 : FVec F S32x512x512 .f32 := shapeCast S32x512x512 main_v129 shapeCasts_S32x1x512x512_S32x512x512
  let main_v131 : FVec F S32x512x512 .f32 := broadcastInDim S32x512x512 ![] bcast_S_S32x512x512 main_v128
  let main_v132 : FVec F S32x512x512 .f32 := mulf main_v131 main_v130
  let main_v133 : FVec F S32x512x512 .f32 := addf main_v126 main_v132
  let main_v134 : FVec F S32x1x512x512 .f32 := broadcastInDim S32x1x512x512 ![0, 2, 3] bcast_S32x512x512_S32x1x512x512_0_2_3 main_v69
  let main_v135 : FVec F S32x1x512x512 .f32 := broadcastInDim S32x1x512x512 ![0, 2, 3] bcast_S32x512x512_S32x1x512x512_0_2_3 main_v133
  let main_v136 : FVec F S32x2x512x512 .f32 := (fun a b => concatenate S32x2x512x512 1 [⟨S32x1x512x512, a⟩, ⟨S32x1x512x512, b⟩] concatenates_S32x1x512x512_S32x1x512x512_S32x2x512x512_d1) main_v134 main_v135
  let main_v137 : FVec F S32x1x512x512 .f32 := (extractStridedSlice S32x1x512x512 ![0, 0, 0, 0] · slices_S32x2x512x512_S32x1x512x512_0_0_0_0) main_v136
  let main_v138 : FVec F S32x512x512 .f32 := shapeCast S32x512x512 main_v137 shapeCasts_S32x1x512x512_S32x512x512
  let main_v139 : FVec F S32x1x512x512 .f32 := (extractStridedSlice S32x1x512x512 ![0, 1, 0, 0] · slices_S32x2x512x512_S32x1x512x512_0_1_0_0) main_v136
  fn_part6 (F := F) main_arg0 main_arg1 main_v4 main_v138 main_v139

def fn_part4 {F : FTy → Type} [FloatOps F] (main_arg0 : FVec F S32x1x512x512 .f32) (main_arg1 : FVec F S2x1x3x3 .f32) (main_v4 : FVec F S2x1x3x3 .f32) (main_v5 : FVec F S32x1x514x514 .f32) (main_v69 : FVec F S32x512x512 .f32) (main_v91 : FVec F S32x512x512 .f32) : IVec S_ 1 :=
  let main_v92 : FVec F S1x1x1x1 .f32 := (extractStridedSlice S1x1x1x1 ![1, 0, 1, 0] · slices_S2x1x3x3_S1x1x1x1_1_0_1_0) main_arg1
  let main_v93 : FVec F S_ .f32 := shapeCast S_ main_v92 shapeCasts_S1x1x1x1_S_
  let main_v94 : FVec F S32x1x512x512 .f32 := (extractStridedSlice S32x1x512x512 ![0, 0, 1, 0] · slices_S32x1x514x514_S32x1x512x512_0_0_1_0) main_v5
  let main_v95 : FVec F S32x512x512 .f32 := shapeCast S32x512x512 main_v94 shapeCasts_S32x1x512x512_S32x512x512
  let main_v96 : FVec F S32x512x512 .f32 := broadcastInDim S32x512x512 ![] bcast_S_S32x512x512 main_v93
  let main_v97 : FVec F S32x512x512 .f32 := mulf main_v96 main_v95
  let main_v98 : FVec F S32x512x512 .f32 := addf main_v91 main_v97
  let main_v99 : FVec F S1x1x1x1 .f32 := (extractStridedSlice S1x1x1x1 ![1, 0, 1, 1] · slices_S2x1x3x3_S1x1x1x1_1_0_1_1) main_arg1
  let main_v100 : FVec F S_ .f32 := shapeCast S_ main_v99 shapeCasts_S1x1x1x1_S_
  let main_v101 : FVec F S32x1x512x512 .f32 := (extractStridedSlice S32x1x512x512 ![0, 0, 1, 1] · slices_S32x1x514x514_S32x1x512x512_0_0_1_1) main_v5
  let main_v102 : FVec F S32x512x512 .f32 := shapeCast S32x512x512 main_v101 shapeCasts_S32x1x512x512_S32x512x512
  let main_v103 : FVec F S32x512x512 .f32 := broadcastInDim S32x512x512 ![] bcast_S_S32x512x512 main_v100
  let main_v104 : FVec F S32x512x512 .f32 := mulf main_v103 main_v102
  let main_v105 : FVec F S32x512x512 .f32 := addf main_v98 main_v104
  let main_v106 : FVec F S1x1x1x1 .f32 := (extractStridedSlice S1x1x1x1 ![1, 0, 1, 2] · slices_S2x1x3x3_S1x1x1x1_1_0_1_2) main_arg1
  let main_v107 : FVec F S_ .f32 := shapeCast S_ main_v106 shapeCasts_S1x1x1x1_S_
  let main_v108 : FVec F S32x1x512x512 .f32 := (extractStridedSlice S32x1x512x512 ![0, 0, 1, 2] · slices_S32x1x514x514_S32x1x512x512_0_0_1_2) main_v5
  let main_v109 : FVec F S32x512x512 .f32 := shapeCast S32x512x512 main_v108 shapeCasts_S32x1x512x512_S32x512x512
  let main_v110 : FVec F S32x512x512 .f32 := broadcastInDim S32x512x512 ![] bcast_S_S32x512x512 main_v107
  let main_v111 : FVec F S32x512x512 .f32 := mulf main_v110 main_v109
  let main_v112 : FVec F S32x512x512 .f32 := addf main_v105 main_v111
  let main_v113 : FVec F S1x1x1x1 .f32 := (extractStridedSlice S1x1x1x1 ![1, 0, 2, 0] · slices_S2x1x3x3_S1x1x1x1_1_0_2_0) main_arg1
  let main_v114 : FVec F S_ .f32 := shapeCast S_ main_v113 shapeCasts_S1x1x1x1_S_
  let main_v115 : FVec F S32x1x512x512 .f32 := (extractStridedSlice S32x1x512x512 ![0, 0, 2, 0] · slices_S32x1x514x514_S32x1x512x512_0_0_2_0) main_v5
  fn_part5 (F := F) main_arg0 main_arg1 main_v4 main_v5 main_v69 main_v112 main_v114 main_v115

def fn_part3 {F : FTy → Type} [FloatOps F] (main_arg0 : FVec F S32x1x512x512 .f32) (main_arg1 : FVec F S2x1x3x3 .f32) (main_v4 : FVec F S2x1x3x3 .f32) (main_v5 : FVec F S32x1x514x514 .f32) (main_v62 : FVec F S32x512x512 .f32) (main_v68 : FVec F S32x512x512 .f32) : IVec S_ 1 :=
  let main_v69 : FVec F S32x512x512 .f32 := addf main_v62 main_v68
  let main_v70 : FVec F S1x1x1x1 .f32 := (extractStridedSlice S1x1x1x1 ![1, 0, 0, 0] · slices_S2x1x3x3_S1x1x1x1_1_0_0_0) main_arg1
  let main_v71 : FVec F S_ .f32 := shapeCast S_ main_v70 shapeCasts_S1x1x1x1_S_
  let main_v72 : FVec F S32x1x512x512 .f32 := (extractStridedSlice S32x1x512x512 ![0, 0, 0, 0] · slices_S32x1x514x514_S32x1x512x512_0_0_0_0) main_v5
  let main_v73 : FVec F S32x512x512 .f32 := shapeCast S32x512x512 main_v72 shapeCasts_S32x1x512x512_S32x512x512
  let main_v74 : FVec F S32x512x512 .f32 := broadcastInDim S32x512x512 ![] bcast_S_S32x512x512 main_v71
  let main_v75 : FVec F S32x512x512 .f32 := mulf main_v74 main_v73
  let main_cst_1 : FVec F S_ .f32 := constant S_ .f32 0x00000000#32
  let main_v76 : FVec F S32x512x512 .f32 := broadcastInDim S32x512x512 ![] bcast_S_S32x512x512 main_cst_1
  let main_v77 : FVec F S32x512x512 .f32 := addf main_v76 main_v75
  let main_v78 : FVec F S1x1x1x1 .f32 := (extractStridedSlice S1x1x1x1 ![1, 0, 0, 1] · slices_S2x1x3x3_S1x1x1x1_1_0_0_1) main_arg1
  let main_v79 : FVec F S_ .f32 := shapeCast S_ main_v78 shapeCasts_S1x1x1x1_S_
  let main_v80 : FVec F S32x1x512x512 .f32 := (extractStridedSlice S32x1x512x512 ![0, 0, 0, 1] · slices_S32x1x514x514_S32x1x512x512_0_0_0_1) main_v5
  let main_v81 : FVec F S32x512x512 .f32 := shapeCast S32x512x512 main_v80 shapeCasts_S32x1x512x512_S32x512x512
  let main_v82 : FVec F S32x512x512 .f32 := broadcastInDim S32x512x512 ![] bcast_S_S32x512x512 main_v79
  let main_v83 : FVec F S32x512x512 .f32 := mulf main_v82 main_v81
  let main_v84 : FVec F S32x512x512 .f32 := addf main_v77 main_v83
  let main_v85 : FVec F S1x1x1x1 .f32 := (extractStridedSlice S1x1x1x1 ![1, 0, 0, 2] · slices_S2x1x3x3_S1x1x1x1_1_0_0_2) main_arg1
  let main_v86 : FVec F S_ .f32 := shapeCast S_ main_v85 shapeCasts_S1x1x1x1_S_
  let main_v87 : FVec F S32x1x512x512 .f32 := (extractStridedSlice S32x1x512x512 ![0, 0, 0, 2] · slices_S32x1x514x514_S32x1x512x512_0_0_0_2) main_v5
  let main_v88 : FVec F S32x512x512 .f32 := shapeCast S32x512x512 main_v87 shapeCasts_S32x1x512x512_S32x512x512
  let main_v89 : FVec F S32x512x512 .f32 := broadcastInDim S32x512x512 ![] bcast_S_S32x512x512 main_v86
  let main_v90 : FVec F S32x512x512 .f32 := mulf main_v89 main_v88
  let main_v91 : FVec F S32x512x512 .f32 := addf main_v84 main_v90
  fn_part4 (F := F) main_arg0 main_arg1 main_v4 main_v5 main_v69 main_v91

def fn_part2 {F : FTy → Type} [FloatOps F] (main_arg0 : FVec F S32x1x512x512 .f32) (main_arg1 : FVec F S2x1x3x3 .f32) (main_v4 : FVec F S2x1x3x3 .f32) (main_v5 : FVec F S32x1x514x514 .f32) (main_v41 : FVec F S32x512x512 .f32) (main_v43 : FVec F S_ .f32) (main_v44 : FVec F S32x1x512x512 .f32) : IVec S_ 1 :=
  let main_v45 : FVec F S32x512x512 .f32 := shapeCast S32x512x512 main_v44 shapeCasts_S32x1x512x512_S32x512x512
  let main_v46 : FVec F S32x512x512 .f32 := broadcastInDim S32x512x512 ![] bcast_S_S32x512x512 main_v43
  let main_v47 : FVec F S32x512x512 .f32 := mulf main_v46 main_v45
  let main_v48 : FVec F S32x512x512 .f32 := addf main_v41 main_v47
  let main_v49 : FVec F S1x1x1x1 .f32 := (extractStridedSlice S1x1x1x1 ![0, 0, 2, 0] · slices_S2x1x3x3_S1x1x1x1_0_0_2_0) main_arg1
  let main_v50 : FVec F S_ .f32 := shapeCast S_ main_v49 shapeCasts_S1x1x1x1_S_
  let main_v51 : FVec F S32x1x512x512 .f32 := (extractStridedSlice S32x1x512x512 ![0, 0, 2, 0] · slices_S32x1x514x514_S32x1x512x512_0_0_2_0) main_v5
  let main_v52 : FVec F S32x512x512 .f32 := shapeCast S32x512x512 main_v51 shapeCasts_S32x1x512x512_S32x512x512
  let main_v53 : FVec F S32x512x512 .f32 := broadcastInDim S32x512x512 ![] bcast_S_S32x512x512 main_v50
  let main_v54 : FVec F S32x512x512 .f32 := mulf main_v53 main_v52
  let main_v55 : FVec F S32x512x512 .f32 := addf main_v48 main_v54
  let main_v56 : FVec F S1x1x1x1 .f32 := (extractStridedSlice S1x1x1x1 ![0, 0, 2, 1] · slices_S2x1x3x3_S1x1x1x1_0_0_2_1) main_arg1
  let main_v57 : FVec F S_ .f32 := shapeCast S_ main_v56 shapeCasts_S1x1x1x1_S_
  let main_v58 : FVec F S32x1x512x512 .f32 := (extractStridedSlice S32x1x512x512 ![0, 0, 2, 1] · slices_S32x1x514x514_S32x1x512x512_0_0_2_1) main_v5
  let main_v59 : FVec F S32x512x512 .f32 := shapeCast S32x512x512 main_v58 shapeCasts_S32x1x512x512_S32x512x512
  let main_v60 : FVec F S32x512x512 .f32 := broadcastInDim S32x512x512 ![] bcast_S_S32x512x512 main_v57
  let main_v61 : FVec F S32x512x512 .f32 := mulf main_v60 main_v59
  let main_v62 : FVec F S32x512x512 .f32 := addf main_v55 main_v61
  let main_v63 : FVec F S1x1x1x1 .f32 := (extractStridedSlice S1x1x1x1 ![0, 0, 2, 2] · slices_S2x1x3x3_S1x1x1x1_0_0_2_2) main_arg1
  let main_v64 : FVec F S_ .f32 := shapeCast S_ main_v63 shapeCasts_S1x1x1x1_S_
  let main_v65 : FVec F S32x1x512x512 .f32 := (extractStridedSlice S32x1x512x512 ![0, 0, 2, 2] · slices_S32x1x514x514_S32x1x512x512_0_0_2_2) main_v5
  let main_v66 : FVec F S32x512x512 .f32 := shapeCast S32x512x512 main_v65 shapeCasts_S32x1x512x512_S32x512x512
  let main_v67 : FVec F S32x512x512 .f32 := broadcastInDim S32x512x512 ![] bcast_S_S32x512x512 main_v64
  let main_v68 : FVec F S32x512x512 .f32 := mulf main_v67 main_v66
  fn_part3 (F := F) main_arg0 main_arg1 main_v4 main_v5 main_v62 main_v68

def fn_part1 {F : FTy → Type} [FloatOps F] (main_arg0 : FVec F S32x1x512x512 .f32) (main_arg1 : FVec F S2x1x3x3 .f32) (main_v4 : FVec F S2x1x3x3 .f32) (main_v5 : FVec F S32x1x514x514 .f32) (main_v20 : FVec F S32x512x512 .f32) : IVec S_ 1 :=
  let main_v21 : FVec F S1x1x1x1 .f32 := (extractStridedSlice S1x1x1x1 ![0, 0, 0, 2] · slices_S2x1x3x3_S1x1x1x1_0_0_0_2) main_arg1
  let main_v22 : FVec F S_ .f32 := shapeCast S_ main_v21 shapeCasts_S1x1x1x1_S_
  let main_v23 : FVec F S32x1x512x512 .f32 := (extractStridedSlice S32x1x512x512 ![0, 0, 0, 2] · slices_S32x1x514x514_S32x1x512x512_0_0_0_2) main_v5
  let main_v24 : FVec F S32x512x512 .f32 := shapeCast S32x512x512 main_v23 shapeCasts_S32x1x512x512_S32x512x512
  let main_v25 : FVec F S32x512x512 .f32 := broadcastInDim S32x512x512 ![] bcast_S_S32x512x512 main_v22
  let main_v26 : FVec F S32x512x512 .f32 := mulf main_v25 main_v24
  let main_v27 : FVec F S32x512x512 .f32 := addf main_v20 main_v26
  let main_v28 : FVec F S1x1x1x1 .f32 := (extractStridedSlice S1x1x1x1 ![0, 0, 1, 0] · slices_S2x1x3x3_S1x1x1x1_0_0_1_0) main_arg1
  let main_v29 : FVec F S_ .f32 := shapeCast S_ main_v28 shapeCasts_S1x1x1x1_S_
  let main_v30 : FVec F S32x1x512x512 .f32 := (extractStridedSlice S32x1x512x512 ![0, 0, 1, 0] · slices_S32x1x514x514_S32x1x512x512_0_0_1_0) main_v5
  let main_v31 : FVec F S32x512x512 .f32 := shapeCast S32x512x512 main_v30 shapeCasts_S32x1x512x512_S32x512x512
  let main_v32 : FVec F S32x512x512 .f32 := broadcastInDim S32x512x512 ![] bcast_S_S32x512x512 main_v29
  let main_v33 : FVec F S32x512x512 .f32 := mulf main_v32 main_v31
  let main_v34 : FVec F S32x512x512 .f32 := addf main_v27 main_v33
  let main_v35 : FVec F S1x1x1x1 .f32 := (extractStridedSlice S1x1x1x1 ![0, 0, 1, 1] · slices_S2x1x3x3_S1x1x1x1_0_0_1_1) main_arg1
  let main_v36 : FVec F S_ .f32 := shapeCast S_ main_v35 shapeCasts_S1x1x1x1_S_
  let main_v37 : FVec F S32x1x512x512 .f32 := (extractStridedSlice S32x1x512x512 ![0, 0, 1, 1] · slices_S32x1x514x514_S32x1x512x512_0_0_1_1) main_v5
  let main_v38 : FVec F S32x512x512 .f32 := shapeCast S32x512x512 main_v37 shapeCasts_S32x1x512x512_S32x512x512
  let main_v39 : FVec F S32x512x512 .f32 := broadcastInDim S32x512x512 ![] bcast_S_S32x512x512 main_v36
  let main_v40 : FVec F S32x512x512 .f32 := mulf main_v39 main_v38
  let main_v41 : FVec F S32x512x512 .f32 := addf main_v34 main_v40
  let main_v42 : FVec F S1x1x1x1 .f32 := (extractStridedSlice S1x1x1x1 ![0, 0, 1, 2] · slices_S2x1x3x3_S1x1x1x1_0_0_1_2) main_arg1
  let main_v43 : FVec F S_ .f32 := shapeCast S_ main_v42 shapeCasts_S1x1x1x1_S_
  let main_v44 : FVec F S32x1x512x512 .f32 := (extractStridedSlice S32x1x512x512 ![0, 0, 1, 2] · slices_S32x1x514x514_S32x1x512x512_0_0_1_2) main_v5
  fn_part2 (F := F) main_arg0 main_arg1 main_v4 main_v5 main_v41 main_v43 main_v44

def fn {F : FTy → Type} [FloatOps F] (main_arg0 : FVec F S32x1x512x512 .f32) (main_arg1 : FVec F S2x1x3x3 .f32) : IVec S_ 1 :=
  let main_cst : FVec F S3x3 .f32 := fun i => FloatOps.ofBits .f32 (lit0 (S3x3.rowMajor i))
  let main_v0 : FVec F S3x3 .f32 := (transpose S3x3 [1, 0] · transposes_S3x3_S3x3_1_0) main_cst
  let main_v1 : FVec F S1x3x3 .f32 := broadcastInDim S1x3x3 ![1, 2] bcast_S3x3_S1x3x3_1_2 main_cst
  let main_v2 : FVec F S1x3x3 .f32 := broadcastInDim S1x3x3 ![1, 2] bcast_S3x3_S1x3x3_1_2 main_v0
  let main_v3 : FVec F S2x3x3 .f32 := (fun a b => concatenate S2x3x3 0 [⟨S1x3x3, a⟩, ⟨S1x3x3, b⟩] concatenates_S1x3x3_S1x3x3_S2x3x3_d0) main_v1 main_v2
  let main_v4 : FVec F S2x1x3x3 .f32 := broadcastInDim S2x1x3x3 ![0, 2, 3] bcast_S2x3x3_S2x1x3x3_0_2_3 main_v3
  let main_c : IVec S_ 32 := constantI S_ 32 0#32
  let main_v5 : FVec F S32x1x514x514 .f32 := fn_pad (F := F) main_arg0 main_c
  let main_v6 : FVec F S1x1x1x1 .f32 := (extractStridedSlice S1x1x1x1 ![0, 0, 0, 0] · slices_S2x1x3x3_S1x1x1x1_0_0_0_0) main_arg1
  let main_v7 : FVec F S_ .f32 := shapeCast S_ main_v6 shapeCasts_S1x1x1x1_S_
  let main_v8 : FVec F S32x1x512x512 .f32 := (extractStridedSlice S32x1x512x512 ![0, 0, 0, 0] · slices_S32x1x514x514_S32x1x512x512_0_0_0_0) main_v5
  let main_v9 : FVec F S32x512x512 .f32 := shapeCast S32x512x512 main_v8 shapeCasts_S32x1x512x512_S32x512x512
  let main_v10 : FVec F S32x512x512 .f32 := broadcastInDim S32x512x512 ![] bcast_S_S32x512x512 main_v7
  let main_v11 : FVec F S32x512x512 .f32 := mulf main_v10 main_v9
  let main_cst_0 : FVec F S_ .f32 := constant S_ .f32 0x00000000#32
  let main_v12 : FVec F S32x512x512 .f32 := broadcastInDim S32x512x512 ![] bcast_S_S32x512x512 main_cst_0
  let main_v13 : FVec F S32x512x512 .f32 := addf main_v12 main_v11
  let main_v14 : FVec F S1x1x1x1 .f32 := (extractStridedSlice S1x1x1x1 ![0, 0, 0, 1] · slices_S2x1x3x3_S1x1x1x1_0_0_0_1) main_arg1
  let main_v15 : FVec F S_ .f32 := shapeCast S_ main_v14 shapeCasts_S1x1x1x1_S_
  let main_v16 : FVec F S32x1x512x512 .f32 := (extractStridedSlice S32x1x512x512 ![0, 0, 0, 1] · slices_S32x1x514x514_S32x1x512x512_0_0_0_1) main_v5
  let main_v17 : FVec F S32x512x512 .f32 := shapeCast S32x512x512 main_v16 shapeCasts_S32x1x512x512_S32x512x512
  let main_v18 : FVec F S32x512x512 .f32 := broadcastInDim S32x512x512 ![] bcast_S_S32x512x512 main_v15
  let main_v19 : FVec F S32x512x512 .f32 := mulf main_v18 main_v17
  let main_v20 : FVec F S32x512x512 .f32 := addf main_v13 main_v19
  fn_part1 (F := F) main_arg0 main_arg1 main_v4 main_v5 main_v20
-- ==== Kernel.lean ====
abbrev S32x1x512x512 : Shape := ⟨4, ![32, 1, 512, 512]⟩
abbrev S2x1x3x3 : Shape := ⟨4, ![2, 1, 3, 3]⟩
abbrev S32x9x64x64 : Shape := ⟨4, ![32, 9, 64, 64]⟩
abbrev S1x1x512x512 : Shape := ⟨4, ![1, 1, 512, 512]⟩
abbrev S1x9x64x64 : Shape := ⟨4, ![1, 9, 64, 64]⟩
abbrev S512x512 : Shape := ⟨2, ![512, 512]⟩
abbrev S1x512 : Shape := ⟨2, ![1, 512]⟩
abbrev S511x512 : Shape := ⟨2, ![511, 512]⟩
abbrev S512x1 : Shape := ⟨2, ![512, 1]⟩
abbrev S512x511 : Shape := ⟨2, ![512, 511]⟩
abbrev S512x64 : Shape := ⟨2, ![512, 64]⟩
abbrev S64x8x512 : Shape := ⟨3, ![64, 8, 512]⟩
abbrev S64x512 : Shape := ⟨2, ![64, 512]⟩
abbrev S64x64 : Shape := ⟨2, ![64, 64]⟩
abbrev S1x1x64x64 : Shape := ⟨4, ![1, 1, 64, 64]⟩

abbrev nBuf : Space → Nat
  | .hbm => 3
  | .vmem => 4
  | .smem => 0
  | _ => 0

abbrev bufTy : (tb : Table) → Fin (tcTables nBuf tb) → BufTy
  | .hbm, ⟨0, _⟩ => ⟨S32x1x512x512, .f32⟩
  | .hbm, ⟨1, _⟩ => ⟨S2x1x3x3, .f32⟩
  | .hbm, ⟨2, _⟩ => ⟨S32x9x64x64, .f32⟩
  | .local _ .vmem, ⟨0, _⟩ => ⟨S1x1x512x512, .f32⟩
  | .local _ .vmem, ⟨1, _⟩ => ⟨S1x1x512x512, .f32⟩
  | .local _ .vmem, ⟨2, _⟩ => ⟨S1x9x64x64, .f32⟩
  | .local _ .vmem, ⟨3, _⟩ => ⟨S1x9x64x64, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "cot120" => some ((-((Real.sqrt 3)⁻¹) : ℝ) : EReal)
  | "cot60" => some (((Real.sqrt 3)⁻¹ : ℝ) : EReal)
  | _ => none
-- ==== ReferenceIdeal.lean ====
abbrev S32x1x512x512 : Shape := ⟨4, ![32, 1, 512, 512]⟩
abbrev S2x1x3x3 : Shape := ⟨4, ![2, 1, 3, 3]⟩
abbrev S_ : Shape := ⟨0, ![]⟩
abbrev S32x1x1x512 : Shape := ⟨4, ![32, 1, 1, 512]⟩
abbrev S32x1x513x512 : Shape := ⟨4, ![32, 1, 513, 512]⟩
abbrev S32x1x514x512 : Shape := ⟨4, ![32, 1, 514, 512]⟩
abbrev S32x1x514x1 : Shape := ⟨4, ![32, 1, 514, 1]⟩
abbrev S32x1x514x513 : Shape := ⟨4, ![32, 1, 514, 513]⟩
abbrev S32x1x514x514 : Shape := ⟨4, ![32, 1, 514, 514]⟩
abbrev S1x1x1x1 : Shape := ⟨4, ![1, 1, 1, 1]⟩
abbrev S32x512x512 : Shape := ⟨3, ![32, 512, 512]⟩
abbrev S32x2x512x512 : Shape := ⟨4, ![32, 2, 512, 512]⟩
abbrev S9 : Shape := ⟨1, ![9]⟩
abbrev S1x9x1x1 : Shape := ⟨4, ![1, 9, 1, 1]⟩
abbrev S32x9x512x512 : Shape := ⟨4, ![32, 9, 512, 512]⟩
abbrev S32x9x64x8x64x8 : Shape := ⟨6, ![32, 9, 64, 8, 64, 8]⟩
abbrev S32x9x64x64 : Shape := ⟨4, ![32, 9, 64, 64]⟩
abbrev S32x64x64 : Shape := ⟨3, ![32, 64, 64]⟩
abbrev S32x1x64x64 : Shape := ⟨4, ![32, 1, 64, 64]⟩

abbrev nBuf : Space → Nat
  | .hbm => 218
  | .vmem => 0
  | .smem => 0
  | _ => 0

abbrev hbmTy0_0 (i : Nat) : BufTy := match i % 128 with
  | 0 => ⟨S32x1x512x512, .f32⟩
  | 1 => ⟨S2x1x3x3, .f32⟩
  | 2 => ⟨S_, .i32⟩
  | 3 => ⟨S32x1x1x512, .f32⟩
  | 4 => ⟨S32x1x1x512, .f32⟩
  | 5 => ⟨S32x1x1x512, .f32⟩
  | 6 => ⟨S32x1x513x512, .f32⟩
  | 7 => ⟨S32x1x1x512, .f32⟩
  | 8 => ⟨S32x1x1x512, .f32⟩
  | 9 => ⟨S32x1x1x512, .f32⟩
  | 10 => ⟨S32x1x514x512, .f32⟩
  | 11 => ⟨S32x1x514x1, .f32⟩
  | 12 => ⟨S32x1x514x1, .f32⟩
  | 13 => ⟨S32x1x514x1, .f32⟩
  | 14 => ⟨S32x1x514x513, .f32⟩
  | 15 => ⟨S32x1x514x1, .f32⟩
  | 16 => ⟨S32x1x514x1, .f32⟩
  | 17 => ⟨S32x1x514x1, .f32⟩
  | 18 => ⟨S32x1x514x514, .f32⟩
  | 19 => ⟨S1x1x1x1, .f32⟩
  | 20 => ⟨S_, .f32⟩
  | 21 => ⟨S32x1x512x512, .f32⟩
  | 22 => ⟨S32x512x512, .f32⟩
  | 23 => ⟨S32x512x512, .f32⟩
  | 24 => ⟨S32x512x512, .f32⟩
  | 25 => ⟨S_, .f32⟩
  | 26 => ⟨S32x512x512, .f32⟩
  | 27 => ⟨S32x512x512, .f32⟩
  | 28 => ⟨S1x1x1x1, .f32⟩
  | 29 => ⟨S_, .f32⟩
  | 30 => ⟨S32x1x512x512, .f32⟩
  | 31 => ⟨S32x512x512, .f32⟩
  | 32 => ⟨S32x512x512, .f32⟩
  | 33 => ⟨S32x512x512, .f32⟩
  | 34 => ⟨S32x512x512, .f32⟩
  | 35 => ⟨S1x1x1x1, .f32⟩
  | 36 => ⟨S_, .f32⟩
  | 37 => ⟨S32x1x512x512, .f32⟩
  | 38 => ⟨S32x512x512, .f32⟩
  | 39 => ⟨S32x512x512, .f32⟩
  | 40 => ⟨S32x512x512, .f32⟩
  | 41 => ⟨S32x512x512, .f32⟩
  | 42 => ⟨S1x1x1x1, .f32⟩
  | 43 => ⟨S_, .f32⟩
  | 44 => ⟨S32x1x512x512, .f32⟩
  | 45 => ⟨S32x512x512, .f32⟩
  | 46 => ⟨S32x512x512, .f32⟩
  | 47 => ⟨S32x512x512, .f32⟩
  | 48 => ⟨S32x512x512, .f32⟩
  | 49 => ⟨S1x1x1x1, .f32⟩
  | 50 => ⟨S_, .f32⟩
  | 51 => ⟨S32x1x512x512, .f32⟩
  | 52 => ⟨S32x512x512, .f32⟩
  | 53 => ⟨S32x512x512, .f32⟩
  | 54 => ⟨S32x512x512, .f32⟩
  | 55 => ⟨S32x512x512, .f32⟩
  | 56 => ⟨S1x1x1x1, .f32⟩
  | 57 => ⟨S_, .f32⟩
  | 58 => ⟨S32x1x512x512, .f32⟩
  | 59 => ⟨S32x512x512, .f32⟩
  | 60 => ⟨S32x512x512, .f32⟩
  | 61 => ⟨S32x512x512, .f32⟩
  | 62 => ⟨S32x512x512, .f32⟩
  | 63 => ⟨S1x1x1x1, .f32⟩
  | 64 => ⟨S_, .f32⟩
  | 65 => ⟨S32x1x512x512, .f32⟩
  | 66 => ⟨S32x512x512, .f32⟩
  | 67 => ⟨S32x512x512, .f32⟩
  | 68 => ⟨S32x512x512, .f32⟩
  | 69 => ⟨S32x512x512, .f32⟩
  | 70 => ⟨S1x1x1x1, .f32⟩
  | 71 => ⟨S_, .f32⟩
  | 72 => ⟨S32x1x512x512, .f32⟩
  | 73 => ⟨S32x512x512, .f32⟩
  | 74 => ⟨S32x512x512, .f32⟩
  | 75 => ⟨S32x512x512, .f32⟩
  | 76 => ⟨S32x512x512, .f32⟩
  | 77 => ⟨S1x1x1x1, .f32⟩
  | 78 => ⟨S_, .f32⟩
  | 79 => ⟨S32x1x512x512, .f32⟩
  | 80 => ⟨S32x512x512, .f32⟩
  | 81 => ⟨S32x512x512, .f32⟩
  | 82 => ⟨S32x512x512, .f32⟩
  | 83 => ⟨S32x512x512, .f32⟩
  | 84 => ⟨S1x1x1x1, .f32⟩
  | 85 => ⟨S_, .f32⟩
  | 86 => ⟨S32x1x512x512, .f32⟩
  | 87 => ⟨S32x512x512, .f32⟩
  | 88 => ⟨S32x512x512, .f32⟩
  | 89 => ⟨S32x512x512, .f32⟩
  | 90 => ⟨S_, .f32⟩
  | 91 => ⟨S32x512x512, .f32⟩
  | 92 => ⟨S32x512x512, .f32⟩
  | 93 => ⟨S1x1x1x1, .f32⟩
  | 94 => ⟨S_, .f32⟩
  | 95 => ⟨S32x1x512x512, .f32⟩
  | 96 => ⟨S32x512x512, .f32⟩
  | 97 => ⟨S32x512x512, .f32⟩
  | 98 => ⟨S32x512x512, .f32⟩
  | 99 => ⟨S32x512x512, .f32⟩
  | 100 => ⟨S1x1x1x1, .f32⟩
  | 101 => ⟨S_, .f32⟩
  | 102 => ⟨S32x1x512x512, .f32⟩
  | 103 => ⟨S32x512x512, .f32⟩
  | 104 => ⟨S32x512x512, .f32⟩
  | 105 => ⟨S32x512x512, .f32⟩
  | 106 => ⟨S32x512x512, .f32⟩
  | 107 => ⟨S1x1x1x1, .f32⟩
  | 108 => ⟨S_, .f32⟩
  | 109 => ⟨S32x1x512x512, .f32⟩
  | 110 => ⟨S32x512x512, .f32⟩
  | 111 => ⟨S32x512x512, .f32⟩
  | 112 => ⟨S32x512x512, .f32⟩
  | 113 => ⟨S32x512x512, .f32⟩
  | 114 => ⟨S1x1x1x1, .f32⟩
  | 115 => ⟨S_, .f32⟩
  | 116 => ⟨S32x1x512x512, .f32⟩
  | 117 => ⟨S32x512x512, .f32⟩
  | 118 => ⟨S32x512x512, .f32⟩
  | 119 => ⟨S32x512x512, .f32⟩
  | 120 => ⟨S32x512x512, .f32⟩
  | 121 => ⟨S1x1x1x1, .f32⟩
  | 122 => ⟨S_, .f32⟩
  | 123 => ⟨S32x1x512x512, .f32⟩
  | 124 => ⟨S32x512x512, .f32⟩
  | 125 => ⟨S32x512x512, .f32⟩
  | 126 => ⟨S32x512x512, .f32⟩
  | 127 => ⟨S32x512x512, .f32⟩
  | _ => ⟨S32x1x512x512, .f32⟩

abbrev hbmTy0_1 (i : Nat) : BufTy := match i % 128 with
  | 0 => ⟨S1x1x1x1, .f32⟩
  | 1 => ⟨S_, .f32⟩
  | 2 => ⟨S32x1x512x512, .f32⟩
  | 3 => ⟨S32x512x512, .f32⟩
  | 4 => ⟨S32x512x512, .f32⟩
  | 5 => ⟨S32x512x512, .f32⟩
  | 6 => ⟨S32x512x512, .f32⟩
  | 7 => ⟨S1x1x1x1, .f32⟩
  | 8 => ⟨S_, .f32⟩
  | 9 => ⟨S32x1x512x512, .f32⟩
  | 10 => ⟨S32x512x512, .f32⟩
  | 11 => ⟨S32x512x512, .f32⟩
  | 12 => ⟨S32x512x512, .f32⟩
  | 13 => ⟨S32x512x512, .f32⟩
  | 14 => ⟨S1x1x1x1, .f32⟩
  | 15 => ⟨S_, .f32⟩
  | 16 => ⟨S32x1x512x512, .f32⟩
  | 17 => ⟨S32x512x512, .f32⟩
  | 18 => ⟨S32x512x512, .f32⟩
  | 19 => ⟨S32x512x512, .f32⟩
  | 20 => ⟨S32x512x512, .f32⟩
  | 21 => ⟨S32x1x512x512, .f32⟩
  | 22 => ⟨S32x1x512x512, .f32⟩
  | 23 => ⟨S32x2x512x512, .f32⟩
  | 24 => ⟨S32x2x512x512, .f32⟩
  | 25 => ⟨S_, .f32⟩
  | 26 => ⟨S32x512x512, .f32⟩
  | 27 => ⟨S32x512x512, .f32⟩
  | 28 => ⟨S32x1x512x512, .f32⟩
  | 29 => ⟨S32x512x512, .f32⟩
  | 30 => ⟨S32x1x512x512, .f32⟩
  | 31 => ⟨S32x512x512, .f32⟩
  | 32 => ⟨S32x512x512, .f32⟩
  | 33 => ⟨S_, .f32⟩
  | 34 => ⟨S_, .f32⟩
  | 35 => ⟨S32x512x512, .f32⟩
  | 36 => ⟨S32x512x512, .f32⟩
  | 37 => ⟨S_, .f32⟩
  | 38 => ⟨S32x512x512, .f32⟩
  | 39 => ⟨S32x512x512, .f32⟩
  | 40 => ⟨S32x512x512, .f32⟩
  | 41 => ⟨S32x512x512, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S32x512x512, .i32⟩
  | 49 => ⟨S32x512x512, .i32⟩
  | 50 => ⟨S_, .i32⟩
  | 51 => ⟨S32x512x512, .i32⟩
  | 52 => ⟨S32x512x512, .i1⟩
  | 53 => ⟨S_, .i32⟩
  | 54 => ⟨S32x512x512, .i32⟩
  | 55 => ⟨S32x512x512, .i1⟩
  | 56 => ⟨S_, .i32⟩
  | 57 => ⟨S_, .i1⟩
  | 58 => ⟨S32x512x512, .i1⟩
  | 59 => ⟨S32x512x512, .i1⟩
  | 60 => ⟨S32x512x512, .i1⟩
  | 61 => ⟨S32x512x512, .i32⟩
  | 62 => ⟨S32x512x512, .i32⟩
  | 63 => ⟨S32x512x512, .i32⟩
  | 64 => ⟨S9, .i32⟩
  | 65 => ⟨S32x1x512x512, .i32⟩
  | 66 => ⟨S1x9x1x1, .i32⟩
  | 67 => ⟨S32x9x512x512, .i32⟩
  | 68 => ⟨S32x9x512x512, .i32⟩
  | 69 => ⟨S32x9x512x512, .i1⟩
  | 70 => ⟨S32x9x512x512, .f32⟩
  | 71 => ⟨S32x1x512x512, .f32⟩
  | 72 => ⟨S32x9x512x512, .f32⟩
  | 73 => ⟨S32x9x512x512, .f32⟩
  | 74 => ⟨S32x9x64x8x64x8, .f32⟩
  | 75 => ⟨S_, .f32⟩
  | 76 => ⟨S32x9x64x64, .f32⟩
  | 77 => ⟨S_, .f32⟩
  | 78 => ⟨S32x9x64x64, .f32⟩
  | 79 => ⟨S32x9x64x64, .f32⟩
  | 80 => ⟨S32x9x64x64, .f32⟩
  | 81 => ⟨S_, .f32⟩
  | 82 => ⟨S32x64x64, .f32⟩
  | 83 => ⟨S32x1x64x64, .f32⟩
  | 84 => ⟨S32x1x64x64, .f32⟩
  | 85 => ⟨S_, .f32⟩
  | 86 => ⟨S32x1x64x64, .f32⟩
  | 87 => ⟨S32x1x64x64, .f32⟩
  | 88 => ⟨S32x9x64x64, .f32⟩
  | 89 => ⟨S32x9x64x64, .f32⟩
  | _ => ⟨S32x1x512x512, .f32⟩

abbrev hbmTy (i : Nat) : BufTy := match i / 128 with
  | 0 => hbmTy0_0 i
  | 1 => hbmTy0_1 i
  | _ => ⟨S32x1x512x512, .f32⟩

abbrev bufTy : (tb : Table) → Fin (tcTables nBuf tb) → BufTy
  | .hbm, ⟨i, _⟩ => hbmTy i
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_0 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_cst_1 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_cst_2 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_cst_3 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_c_4 : Ref sig .tc := ⟨.hbm, 170, rfl⟩
abbrev main_call1_v0 : Ref sig .tc := ⟨.hbm, 171, rfl⟩
abbrev main_call1_c : Ref sig .tc := ⟨.hbm, 172, rfl⟩
abbrev main_call1_v1 : Ref sig .tc := ⟨.hbm, 173, rfl⟩
abbrev main_call1_c_0 : Ref sig .tc := ⟨.hbm, 174, rfl⟩
abbrev main_call1_v2 : Ref sig .tc := ⟨.hbm, 175, rfl⟩
abbrev main_call1_v3 : Ref sig .tc := ⟨.hbm, 176, rfl⟩
abbrev main_call1_v4 : Ref sig .tc := ⟨.hbm, 177, rfl⟩
abbrev main_call1_c_1 : Ref sig .tc := ⟨.hbm, 178, rfl⟩
abbrev main_call1_v5 : Ref sig .tc := ⟨.hbm, 179, rfl⟩
abbrev main_call1_v6 : Ref sig .tc := ⟨.hbm, 180, rfl⟩
abbrev main_call1_c_2 : Ref sig .tc := ⟨.hbm, 181, rfl⟩
abbrev main_call1_v7 : Ref sig .tc := ⟨.hbm, 182, rfl⟩
abbrev main_call1_v8 : Ref sig .tc := ⟨.hbm, 183, rfl⟩
abbrev main_call1_c_3 : Ref sig .tc := ⟨.hbm, 184, rfl⟩
abbrev main_call1_v9 : Ref sig .tc := ⟨.hbm, 185, rfl⟩
abbrev main_call1_v10 : Ref sig .tc := ⟨.hbm, 186, rfl⟩
abbrev main_call1_v11 : Ref sig .tc := ⟨.hbm, 187, rfl⟩
abbrev main_call1_v12 : Ref sig .tc := ⟨.hbm, 188, rfl⟩
abbrev main_call1_v13 : Ref sig .tc := ⟨.hbm, 189, rfl⟩
abbrev main_call1_v14 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_cst_5 : Ref sig .tc := ⟨.hbm, 203, rfl⟩
abbrev main_v159 : Ref sig .tc := ⟨.hbm, 204, rfl⟩
abbrev main_cst_6 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_cst_7 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_cst_8 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩

abbrev nD : Nat := 1
abbrev τ : Topo := Topo.v7x

variable {F : FTy → Type} [FloatOps F]
-- ==== Proof.Angle.lean ====
/-
  The angle of a gradient and the nine bins, over the reals: nothing here mentions a program.
  `angle y x` is the angle of the point `(x, y)` as the two-argument arctangent gives it; a bin is the part of
  `k π / 9` to `(k + 1) π / 9` in which the angle lies, opposite directions being counted alike.
-/
module

public import Idealize.ShloMosaic.PureOps.Ideal
public import Mathlib.Analysis.SpecialFunctions.Trigonometric.Arctan

@[expose] public section

noncomputable section

namespace Cert.Hog

open Real

/-- The angle of the point `(x, y)`, in `(-π, π]`, quadrant by quadrant. -/
def angle (y x : ℝ) : ℝ :=
  if 0 < x then arctan (y / x)
  else if x < 0 then (if 0 ≤ y then arctan (y / x) + π else arctan (y / x) - π)
  else if 0 < y then π / 2 else if y < 0 then -(π / 2) else 0

/-- Above the horizontal axis the angle lies strictly between `0` and `π`, and the point is a positive multiple of the
    angle's cosine and sine. -/
theorem angle_polar {y x : ℝ} (hy : 0 < y) :
    0 < angle y x ∧ angle y x < π ∧ ∃ ρ : ℝ, 0 < ρ ∧ x = ρ * cos (angle y x) ∧ y = ρ * sin (angle y x) := by
  rcases lt_trichotomy x 0 with hx | hx | hx
  · have e : angle y x = arctan (y / x) + π := by
      unfold angle; rw [if_neg (not_lt.2 hx.le), if_pos hx, if_pos hy.le]
    have hq : y / x < 0 := div_neg_of_pos_of_neg hy hx
    have h1 := neg_pi_div_two_lt_arctan (y / x)
    have h2 : arctan (y / x) < 0 := by simpa using arctan_strictMono hq
    have hs : 0 < √(1 + (y / x) ^ 2) := sqrt_pos.2 (by positivity)
    refine ⟨by rw [e]; linarith [pi_pos], by rw [e]; linarith, -x * √(1 + (y / x) ^ 2), mul_pos (by linarith) hs, ?_, ?_⟩
    · rw [e, cos_add_pi, cos_arctan]; field_simp
    · rw [e, sin_add_pi, sin_arctan]; field_simp; rw [div_self hx.ne]
  · have e : angle y x = π / 2 := by
      unfold angle; rw [if_neg (by simp [hx]), if_neg (by simp [hx]), if_pos hy]
    refine ⟨by rw [e]; linarith [pi_pos], by rw [e]; linarith [pi_pos], y, hy, ?_, ?_⟩
    · rw [e, cos_pi_div_two, hx]; ring
    · rw [e, sin_pi_div_two]; ring
  · have e : angle y x = arctan (y / x) := by unfold angle; rw [if_pos hx]
    have hq : 0 < y / x := div_pos hy hx
    have h1 := arctan_lt_pi_div_two (y / x)
    have h2 : 0 < arctan (y / x) := by simpa using arctan_strictMono hq
    have hs : 0 < √(1 + (y / x) ^ 2) := sqrt_pos.2 (by positivity)
    refine ⟨by rw [e]; linarith, by rw [e]; linarith [pi_pos], x * √(1 + (y / x) ^ 2), mul_pos hx hs, ?_, ?_⟩
    · rw [e, cos_arctan]; field_simp
    · rw [e, sin_arctan]; field_simp

/-- Below the horizontal axis the angle is that of the opposite point less `π`. -/
theorem angle_of_neg {y x : ℝ} (hy : y < 0) : angle y x = angle (-y) (-x) - π := by
  rcases lt_trichotomy x 0 with hx | hx | hx
  · unfold angle
    rw [if_neg (not_lt.2 hx.le), if_pos hx, if_neg (not_le.2 hy), if_pos (by linarith : 0 < -x), neg_div_neg_eq]
  · subst hx
    unfold angle
    rw [if_neg (lt_irrefl _), if_neg (lt_irrefl _), if_neg (not_lt.2 hy.le), if_pos hy, if_neg (by simp), if_neg (by simp),
      if_pos (by linarith)]
    ring
  · unfold angle
    rw [if_pos hx, if_neg (by linarith : ¬ 0 < -x), if_pos (by linarith : -x < 0), if_pos (by linarith : 0 ≤ -y), neg_div_neg_eq]
    ring

/-- A point above the axis lies at or past the angle `t` exactly when its slope `x / y` is at most `t`'s cotangent. -/
theorem le_angle_iff {y x t : ℝ} (hy : 0 < y) (ht0 : 0 < t) (htπ : t < π) :
    t ≤ angle y x ↔ x / y ≤ cos t / sin t := by
  obtain ⟨h0, hπ, ρ, hρ, hxe, hye⟩ := angle_polar (x := x) hy
  have hst : 0 < sin t := sin_pos_of_pos_of_lt_pi ht0 htπ
  have hsa : 0 < sin (angle y x) := sin_pos_of_pos_of_lt_pi h0 hπ
  have e : x / y = cos (angle y x) / sin (angle y x) := by
    calc x / y = (ρ * cos (angle y x)) / (ρ * sin (angle y x)) := by rw [← hxe, ← hye]
      _ = _ := mul_div_mul_left _ _ hρ.ne'
  rw [e, div_le_div_iff₀ hsa hst]
  have hsub : sin (t - angle y x) = sin t * cos (angle y x) - cos t * sin (angle y x) := sin_sub _ _
  constructor
  · intro h
    have : sin (t - angle y x) ≤ 0 := sin_nonpos_of_nonpos_of_neg_pi_le (by linarith) (by linarith)
    linarith
  · intro h
    by_contra hlt
    have : 0 < sin (t - angle y x) := sin_pos_of_pos_of_lt_pi (by linarith) (by linarith)
    linarith

/-- The number of the bin before it is reduced modulo nine: the part of a ninth of `π` in which the angle lies. -/
def part (gx gy : ℝ) : ℤ := ⌊angle gx gy / π * 9⌋

/-- The part is at least `k` exactly when the angle is at least `k π / 9`. -/
theorem le_part_iff (gx gy : ℝ) (k : ℤ) : k ≤ part gx gy ↔ (k : ℝ) * π / 9 ≤ angle gx gy := by
  unfold part
  rw [Int.le_floor, div_mul_eq_mul_div, le_div_iff₀ pi_pos]
  constructor <;> intro h <;> linarith

/-- With `gx` positive the part is one of `0` to `8`. -/
theorem part_range_of_pos {gx gy : ℝ} (h : 0 < gx) : 0 ≤ part gx gy ∧ part gx gy < 9 := by
  obtain ⟨h0, hπ, -⟩ := angle_polar (x := gy) h
  refine ⟨(le_part_iff gx gy 0).2 (by push_cast; linarith), ?_⟩
  by_contra hc
  have := (le_part_iff gx gy 9).1 (by linarith)
  push_cast at this
  linarith

/-- With `gx` negative the part is nine below that of the opposite point. -/
theorem part_of_neg {gx gy : ℝ} (h : gx < 0) : part gx gy = part (-gx) (-gy) - 9 := by
  unfold part
  rw [angle_of_neg h, show (angle (-gx) (-gy) - π) / π * 9 = angle (-gx) (-gy) / π * 9 - (9 : ℕ) by
    field_simp; push_cast; ring, Int.floor_sub_natCast]
  norm_num

/-- With `gx` zero the part is `0`, or `9` where `gy` is negative. -/
theorem part_of_zero (gy : ℝ) : part 0 gy = if gy < 0 then 9 else 0 := by
  unfold part angle
  rcases lt_trichotomy gy 0 with hx | hx | hx
  · rw [if_neg (not_lt.2 hx.le), if_pos hx, if_pos le_rfl, if_pos hx, zero_div, arctan_zero, zero_add,
      div_self pi_ne_zero, one_mul]
    exact_mod_cast Int.floor_natCast 9
  · subst hx; simp
  · rw [if_pos hx, if_neg (not_lt.2 hx.le)]; simp

/-- The part lies between `-9` and `9`. -/
theorem part_range (gx gy : ℝ) : -9 ≤ part gx gy ∧ part gx gy ≤ 9 := by
  rcases lt_trichotomy gx 0 with h | h | h
  · rw [part_of_neg h]
    have := part_range_of_pos (gx := -gx) (gy := -gy) (by linarith)
    omega
  · subst h; rw [part_of_zero]; split <;> omega
  · have := part_range_of_pos (gy := gy) h; omega

/-- The bin: the part modulo nine. -/
def bin (gx gy : ℝ) : ℤ := part gx gy % 9

/-- The bin is one of `0` to `8`. -/
theorem bin_range (gx gy : ℝ) : 0 ≤ bin gx gy ∧ bin gx gy < 9 :=
  ⟨Int.emod_nonneg _ (by norm_num), Int.emod_lt_of_pos _ (by norm_num)⟩

/-- With `gx` nonzero, the bin is at least `k` exactly when the slope `gy / gx` is at most the cotangent of `k π / 9`. -/
theorem le_bin_iff {gx gy : ℝ} (h : gx ≠ 0) {k : ℤ} (hk0 : 0 < k) (hk9 : k < 9) :
    k ≤ bin gx gy ↔ gy / gx ≤ cos (k * π / 9) / sin (k * π / 9) := by
  have hk0' : (0 : ℝ) < k := by exact_mod_cast hk0
  have hk9' : (k : ℝ) < 9 := by exact_mod_cast hk9
  have ht0 : 0 < (k : ℝ) * π / 9 := by positivity
  have htπ : (k : ℝ) * π / 9 < π := by
    rw [div_lt_iff₀ (by norm_num)]; nlinarith [pi_pos]
  rcases lt_or_gt_of_ne h with hn | hp
  · have hr := part_range_of_pos (gx := -gx) (gy := -gy) (by linarith)
    have e : bin gx gy = part (-gx) (-gy) := by unfold bin; rw [part_of_neg hn]; omega
    rw [e, le_part_iff, le_angle_iff (by linarith) ht0 htπ, neg_div_neg_eq]
  · have hr := part_range_of_pos (gy := gy) hp
    have e : bin gx gy = part gx gy := by unfold bin; omega
    rw [e, le_part_iff, le_angle_iff hp ht0 htπ]

/-- With `gx` zero the bin is `0`. -/
theorem bin_of_zero (gy : ℝ) : bin 0 gy = 0 := by
  unfold bin; rw [part_of_zero]; split <;> norm_num

end Cert.Hog

end
-- ==== Proof.Edges.lean ====
/-
  The edges of the bins, over the reals: `edge k` is the cotangent of `k π / 9`. Six of the eight inner edges are numbers
  that no root expresses plainly; the kernel holds them as 32-bit words, and each word lies within one part in `2 ^ 24`
  of its edge. The other two are plus and minus the reciprocal of the root of three.
-/
module

public import proofs.«01_k».proof.Proof.Angle

@[expose] public section

noncomputable section

namespace Cert.Hog

open Real

/-- The edge between the bins `k - 1` and `k`: the slope of the direction of angle `k π / 9`. -/
def edge (k : ℤ) : ℝ := cos (k * π / 9) / sin (k * π / 9)

/-- What the kernel holds for the edge `k`: a dyadic number, or the exact edge for `k = 3` and `k = 6`. -/
def held (k : ℤ) : ℝ :=
  if k = 1 then 2880939 / 1048576 else if k = 2 then 4998577 / 4194304 else if k = 3 then (√3)⁻¹
  else if k = 4 then 11833103 / 67108864 else if k = 5 then -(11833103 / 67108864) else if k = 6 then -(√3)⁻¹
  else if k = 7 then -(4998577 / 4194304) else -(2880939 / 1048576)

/-- A root above one half of `4 x³ - 3 x = v` lies between two numbers at which the cubic is below and above `v`. -/
theorem cubic_upper {x v lo hi : ℝ} (h : 4 * x ^ 3 - 3 * x = v) (hx : 1 / 2 < x) (hlo : 1 / 2 < lo) (hhi : 1 / 2 < hi)
    (h1 : 4 * lo ^ 3 - 3 * lo < v) (h2 : v < 4 * hi ^ 3 - 3 * hi) : lo < x ∧ x < hi := by
  constructor
  · by_contra hc
    push Not at hc
    nlinarith [mul_nonneg (sub_nonneg.2 hc) (by nlinarith : 0 ≤ 4 * (lo ^ 2 + lo * x + x ^ 2) - 3)]
  · by_contra hc
    push Not at hc
    nlinarith [mul_nonneg (sub_nonneg.2 hc) (by nlinarith : 0 ≤ 4 * (hi ^ 2 + hi * x + x ^ 2) - 3)]

/-- A root between zero and one half of `4 x³ - 3 x = v` lies between two numbers there at which the cubic is above and
    below `v`. -/
theorem cubic_lower {x v lo hi : ℝ} (h : 4 * x ^ 3 - 3 * x = v) (h0 : 0 < x) (hx : x < 1 / 2) (hlo0 : 0 < lo) (hlo : lo < 1 / 2)
    (hhi0 : 0 < hi) (hhi : hi < 1 / 2) (h1 : v < 4 * lo ^ 3 - 3 * lo) (h2 : 4 * hi ^ 3 - 3 * hi < v) : lo < x ∧ x < hi := by
  constructor
  · by_contra hc
    push Not at hc
    nlinarith [mul_nonneg (sub_nonneg.2 hc) (by nlinarith : 0 ≤ 3 - 4 * (lo ^ 2 + lo * x + x ^ 2))]
  · by_contra hc
    push Not at hc
    nlinarith [mul_nonneg (sub_nonneg.2 hc) (by nlinarith : 0 ≤ 3 - 4 * (hi ^ 2 + hi * x + x ^ 2))]

/-- The cosine of a ninth of `π`, to ten places. -/
theorem cos_ninth : (0.93969262078 : ℝ) < cos (π / 9) ∧ cos (π / 9) < 0.93969262079 := by
  have h3 : 4 * cos (π / 9) ^ 3 - 3 * cos (π / 9) = 1 / 2 := by
    rw [← cos_three_mul, show 3 * (π / 9) = π / 3 by ring, cos_pi_div_three]
  have hx : 1 / 2 < cos (π / 9) := by
    rw [← cos_pi_div_three]
    exact cos_lt_cos_of_nonneg_of_le_pi (by positivity) (by linarith [pi_pos]) (by linarith [pi_pos])
  exact cubic_upper h3 hx (by norm_num) (by norm_num) (by norm_num) (by norm_num)

/-- The cosine of two ninths of `π`, to ten places. -/
theorem cos_two_ninths : (0.76604444311 : ℝ) < cos (2 * (π / 9)) ∧ cos (2 * (π / 9)) < 0.76604444312 := by
  have h3 : 4 * cos (2 * (π / 9)) ^ 3 - 3 * cos (2 * (π / 9)) = -(1 / 2) := by
    rw [← cos_three_mul, show 3 * (2 * (π / 9)) = π - π / 3 by ring, cos_pi_sub, cos_pi_div_three]
  have hx : 1 / 2 < cos (2 * (π / 9)) := by
    rw [← cos_pi_div_three]
    exact cos_lt_cos_of_nonneg_of_le_pi (by positivity) (by linarith [pi_pos]) (by linarith [pi_pos])
  exact cubic_upper h3 hx (by norm_num) (by norm_num) (by norm_num) (by norm_num)

/-- The cosine of four ninths of `π`, to ten places. -/
theorem cos_four_ninths : (0.17364817766 : ℝ) < cos (4 * (π / 9)) ∧ cos (4 * (π / 9)) < 0.17364817767 := by
  have h3 : 4 * cos (4 * (π / 9)) ^ 3 - 3 * cos (4 * (π / 9)) = -(1 / 2) := by
    rw [← cos_three_mul, show 3 * (4 * (π / 9)) = π / 3 + π by ring, cos_add_pi, cos_pi_div_three]
  have h0 : 0 < cos (4 * (π / 9)) := cos_pos_of_mem_Ioo ⟨by linarith [pi_pos], by linarith [pi_pos]⟩
  have hx : cos (4 * (π / 9)) < 1 / 2 := by
    rw [← cos_pi_div_three]
    exact cos_lt_cos_of_nonneg_of_le_pi (by positivity) (by linarith [pi_pos]) (by linarith [pi_pos])
  exact cubic_lower h3 h0 hx (by norm_num) (by norm_num) (by norm_num) (by norm_num) (by norm_num) (by norm_num)

/-- A positive number `w` lies within one part in `2 ^ 24` of the cotangent of an acute angle, if its square does so with the
    cotangent's square, which the square of the cosine gives. -/
theorem near_cot {w c s lo hi : ℝ} (hw : 0 < w) (hc : 0 < c) (hs : 0 < s) (h1 : c ^ 2 + s ^ 2 = 1) (hlo : lo < c ^ 2)
    (hhi : c ^ 2 < hi) (hl : w ^ 2 * (1 - lo) ≤ lo * (1 + 1 / 16777216) ^ 2)
    (hh : hi * (1 - 1 / 16777216) ^ 2 ≤ w ^ 2 * (1 - hi)) : |w - c / s| ≤ 1 / 16777216 * |c / s| := by
  have hcs : 0 < c / s := div_pos hc hs
  rw [abs_of_pos hcs]
  have hs2 : s ^ 2 = 1 - c ^ 2 := by linarith
  have up : w * s ≤ c * (1 + 1 / 16777216) := by
    refine le_of_sq_le_sq ?_ (by positivity)
    rw [mul_pow, mul_pow, hs2]
    nlinarith [mul_pos hw hw]
  have dn : c * (1 - 1 / 16777216) ≤ w * s := by
    refine le_of_sq_le_sq ?_ (by positivity)
    rw [mul_pow, mul_pow, hs2]
    nlinarith [mul_pos hw hw]
  have e : c / s * s = c := div_mul_cancel₀ _ hs.ne'
  rw [abs_le]
  constructor
  · by_contra hcon
    push Not at hcon
    have := mul_lt_mul_of_pos_right hcon hs
    nlinarith
  · by_contra hcon
    push Not at hcon
    have := mul_lt_mul_of_pos_right hcon hs
    nlinarith

/-- The sine of an edge's angle is positive. -/
theorem sin_edge_pos {k : ℤ} (h0 : 0 < k) (h9 : k < 9) : 0 < sin (k * π / 9) := by
  have hk0 : (0 : ℝ) < k := by exact_mod_cast h0
  have hk9 : (k : ℝ) < 9 := by exact_mod_cast h9
  refine sin_pos_of_pos_of_lt_pi (by positivity) ?_
  rw [div_lt_iff₀ (by norm_num)]; nlinarith [pi_pos]

/-- Edges opposite about the axis differ in sign only. -/
theorem edge_opposite (k : ℤ) : edge (9 - k) = -edge k := by
  unfold edge
  rw [show ((9 - k : ℤ) : ℝ) * π / 9 = π - k * π / 9 by push_cast; ring, cos_pi_sub, sin_pi_sub, neg_div]

/-- The held numbers opposite about the axis differ in sign only. -/
theorem held_opposite {k : ℤ} (h0 : 0 < k) (h9 : k < 9) : held (9 - k) = -held k := by
  obtain rfl | rfl | rfl | rfl | rfl | rfl | rfl | rfl :
    k = 1 ∨ k = 2 ∨ k = 3 ∨ k = 4 ∨ k = 5 ∨ k = 6 ∨ k = 7 ∨ k = 8 := by omega
  all_goals norm_num [held]

/-- The edge of a third of `π` is held exactly. -/
theorem held_three : held 3 = edge 3 := by
  have e : ((3 : ℤ) : ℝ) * π / 9 = π / 3 := by push_cast; ring
  have h3 : (√3 : ℝ) ≠ 0 := by positivity
  unfold edge
  rw [e, cos_pi_div_three, sin_pi_div_three]
  norm_num [held]
  field_simp

/-- Double the angle's cosine squared is one more than the cosine of the double angle. -/
theorem cos_sq_half (x : ℝ) : cos x ^ 2 = (1 + cos (2 * x)) / 2 := by rw [cos_two_mul]; ring

/-- The word held for the first edge is near it. -/
theorem near_one : |held 1 - edge 1| ≤ 1 / 16777216 * |edge 1| := by
  have hs : 0 < sin (π / 9) := by simpa using sin_edge_pos (k := 1) (by norm_num) (by norm_num)
  have e : edge 1 = cos (π / 9) / sin (π / 9) := by simp [edge]
  obtain ⟨a, b⟩ := cos_two_ninths
  have c := cos_sq_half (π / 9)
  rw [e]
  refine near_cot (lo := (1 + 0.76604444311) / 2) (hi := (1 + 0.76604444312) / 2) (by norm_num [held]) (by linarith [cos_ninth.1]) hs
    (cos_sq_add_sin_sq _) (by linarith) (by linarith) (by norm_num [held]) (by norm_num [held])

/-- The word held for the second edge is near it. -/
theorem near_two : |held 2 - edge 2| ≤ 1 / 16777216 * |edge 2| := by
  have e0 : ((2 : ℤ) : ℝ) * π / 9 = 2 * (π / 9) := by push_cast; ring
  have hs := sin_edge_pos (k := 2) (by norm_num) (by norm_num)
  obtain ⟨a, b⟩ := cos_four_ninths
  have c := cos_sq_half (2 * (π / 9))
  rw [show 2 * (2 * (π / 9)) = 4 * (π / 9) by ring] at c
  unfold edge
  rw [e0] at hs ⊢
  refine near_cot (lo := (1 + 0.17364817766) / 2) (hi := (1 + 0.17364817767) / 2) (by norm_num [held]) (by linarith [cos_two_ninths.1]) hs
    (cos_sq_add_sin_sq _) (by linarith) (by linarith) (by norm_num [held]) (by norm_num [held])

/-- The word held for the fourth edge is near it. -/
theorem near_four : |held 4 - edge 4| ≤ 1 / 16777216 * |edge 4| := by
  have e0 : ((4 : ℤ) : ℝ) * π / 9 = 4 * (π / 9) := by push_cast; ring
  have hs := sin_edge_pos (k := 4) (by norm_num) (by norm_num)
  obtain ⟨a, b⟩ := cos_ninth
  have c := cos_sq_half (4 * (π / 9))
  rw [show 2 * (4 * (π / 9)) = π - π / 9 by ring, cos_pi_sub] at c
  unfold edge
  rw [e0] at hs ⊢
  refine near_cot (lo := (1 - 0.93969262079) / 2) (hi := (1 - 0.93969262078) / 2) (by norm_num [held]) (by linarith [cos_four_ninths.1]) hs
    (cos_sq_add_sin_sq _) (by linarith) (by linarith) (by norm_num [held]) (by norm_num [held])

/-- Every word held is within one part in `2 ^ 24` of its edge. -/
theorem near {k : ℤ} (h0 : 0 < k) (h9 : k < 9) : |held k - edge k| ≤ 1 / 16777216 * |edge k| := by
  have opp : ∀ j : ℤ, 0 < j → j < 9 → |held j - edge j| ≤ 1 / 16777216 * |edge j| →
      |held (9 - j) - edge (9 - j)| ≤ 1 / 16777216 * |edge (9 - j)| := by
    intro j a b h
    rw [held_opposite a b, edge_opposite, abs_neg, show -held j - -edge j = -(held j - edge j) by ring, abs_neg]
    exact h
  have three : |held 3 - edge 3| ≤ 1 / 16777216 * |edge 3| := by
    rw [held_three, sub_self, abs_zero]; positivity
  obtain rfl | rfl | rfl | rfl | rfl | rfl | rfl | rfl :
    k = 1 ∨ k = 2 ∨ k = 3 ∨ k = 4 ∨ k = 5 ∨ k = 6 ∨ k = 7 ∨ k = 8 := by omega
  · exact near_one
  · exact near_two
  · exact three
  · exact near_four
  · exact opp 4 (by norm_num) (by norm_num) near_four
  · exact opp 3 (by norm_num) (by norm_num) three
  · exact opp 2 (by norm_num) (by norm_num) near_two
  · exact opp 1 (by norm_num) (by norm_num) near_one

/-- A gradient is clear of the edge `k`: its cross product with the edge's direction is more than one part in `2 ^ 24` of
    its component across. -/
def Clear (gx gy : ℝ) (k : ℤ) : Prop :=
  1 / 16777216 * |gx * cos (k * π / 9)| < |gy * sin (k * π / 9) - gx * cos (k * π / 9)|

/-- A gradient clear of an edge lies on the same side of the edge and of what is held for it. -/
theorem le_held_iff_of_clear {gx gy : ℝ} (h : gx ≠ 0) {k : ℤ} (h0 : 0 < k) (h9 : k < 9) (hc : Clear gx gy k) :
    gy / gx ≤ held k ↔ gy / gx ≤ edge k := by
  have hs := sin_edge_pos h0 h9
  have hn := near h0 h9
  have hpos : 0 < |gx| * sin (k * π / 9) := mul_pos (abs_pos.2 h) hs
  have e1 : |gx * cos (k * π / 9)| = |edge k| * (|gx| * sin (k * π / 9)) := by
    unfold edge
    rw [abs_div, abs_of_pos hs, abs_mul]; field_simp
  have e2 : |gy * sin (k * π / 9) - gx * cos (k * π / 9)| = |gy / gx - edge k| * (|gx| * sin (k * π / 9)) := by
    rw [← abs_of_pos hs, ← abs_mul, ← abs_mul, abs_of_pos hs]
    congr 1
    unfold edge
    field_simp
  unfold Clear at hc
  rw [e1, e2, ← mul_assoc] at hc
  have hlt : 1 / 16777216 * |edge k| < |gy / gx - edge k| := lt_of_mul_lt_mul_right hc hpos.le
  have hlt' := lt_of_le_of_lt hn hlt
  generalize gy / gx = r at *
  generalize held k = w at *
  generalize edge k = c at *
  constructor
  · intro hr
    by_contra hcon
    push Not at hcon
    rw [abs_of_pos (by linarith : 0 < r - c)] at hlt'
    have := (abs_lt.1 hlt').2
    linarith
  · intro hr
    by_contra hcon
    push Not at hcon
    rw [abs_of_nonpos (by linarith : r - c ≤ 0)] at hlt'
    have := (abs_lt.1 hlt').1
    linarith

/-- In general position a gradient is clear of the six edges held as words, or points along the axis. -/
def General (gx gy : ℝ) : Prop :=
  gx = 0 ∨ (Clear gx gy 1 ∧ Clear gx gy 2 ∧ Clear gx gy 4 ∧ Clear gx gy 5 ∧ Clear gx gy 7 ∧ Clear gx gy 8)

/-- In general position the slope is at most what is held for an edge exactly when the bin is at or past it. -/
theorem le_held_iff {gx gy : ℝ} (h : gx ≠ 0) (hg : General gx gy) {k : ℤ} (h0 : 0 < k) (h9 : k < 9) :
    gy / gx ≤ held k ↔ k ≤ bin gx gy := by
  rw [le_bin_iff h h0 h9]
  obtain hg | ⟨c1, c2, c4, c5, c7, c8⟩ := hg
  · exact absurd hg h
  change _ ↔ gy / gx ≤ edge k
  obtain rfl | rfl | rfl | rfl | rfl | rfl | rfl | rfl :
    k = 1 ∨ k = 2 ∨ k = 3 ∨ k = 4 ∨ k = 5 ∨ k = 6 ∨ k = 7 ∨ k = 8 := by omega
  · exact le_held_iff_of_clear h h0 h9 c1
  · exact le_held_iff_of_clear h h0 h9 c2
  · rw [held_three]
  · exact le_held_iff_of_clear h h0 h9 c4
  · exact le_held_iff_of_clear h h0 h9 c5
  · rw [show (6 : ℤ) = 9 - 3 by norm_num, held_opposite (by norm_num) (by norm_num), edge_opposite, held_three]
  · exact le_held_iff_of_clear h h0 h9 c7
  · exact le_held_iff_of_clear h h0 h9 c8

end Cert.Hog

end
-- ==== Proof.Words.lean ====
/-
  The float constants that the programs and the precondition spell, as the extended reals their words denote.
-/
module

public import Idealize.ShloMosaic.PureOps.Ideal
public import proofs.«01_k».proof.KernelIdeal
public import Idealize.ShloMosaic.PureOps.IdealRules

@[expose] public section

noncomputable section

namespace Cert.Hog

open Idealize.ShloMosaic

/-- The word of `2`. -/
theorem word_two : Ideal.ofBits .f32 0x40000000#32 = ((2 : ℝ) : EReal) := by
  simp [Ideal.ofBits, Ideal.ieee, -EReal.coe_mul]; try norm_num

/-- The word of `-1`. -/
theorem word_neg_one : Ideal.ofBits .f32 0xBF800000#32 = ((-1 : ℝ) : EReal) := by
  simp [Ideal.ofBits, Ideal.ieee, -EReal.coe_mul, -EReal.coe_neg]; try norm_num

/-- The word of `-2`. -/
theorem word_neg_two : Ideal.ofBits .f32 0xC0000000#32 = ((-2 : ℝ) : EReal) := by
  simp [Ideal.ofBits, Ideal.ieee, -EReal.coe_mul, -EReal.coe_neg]; try norm_num

/-- The word of `4`. -/
theorem word_four : Ideal.ofBits .f32 0x40800000#32 = ((4 : ℝ) : EReal) := by
  simp [Ideal.ofBits, Ideal.ieee, -EReal.coe_mul, -EReal.coe_neg]; try norm_num

/-- The word of `5`. -/
theorem word_five : Ideal.ofBits .f32 0x40A00000#32 = ((5 : ℝ) : EReal) := by
  simp [Ideal.ofBits, Ideal.ieee, -EReal.coe_mul, -EReal.coe_neg]; try norm_num

/-- The word of `7`. -/
theorem word_seven : Ideal.ofBits .f32 0x40E00000#32 = ((7 : ℝ) : EReal) := by
  simp [Ideal.ofBits, Ideal.ieee, -EReal.coe_mul, -EReal.coe_neg]; try norm_num

/-- The word of `8`. -/
theorem word_eight : Ideal.ofBits .f32 0x41000000#32 = ((8 : ℝ) : EReal) := by
  simp [Ideal.ofBits, Ideal.ieee, -EReal.coe_mul, -EReal.coe_neg]; try norm_num

/-- The word of one part in `2 ^ 24`. -/
theorem word_tolerance : Ideal.ofBits .f32 0x33800000#32 = ((1 / 16777216 : ℝ) : EReal) := by
  simp [Ideal.ofBits, Ideal.ieee, -EReal.coe_mul, -EReal.coe_neg]; try norm_num

/-- The word of infinity. -/
theorem word_infinity : Ideal.ofBits .f32 0x7F800000#32 = (⊤ : EReal) := by
  simp [Ideal.ofBits, Ideal.ieee]

/-- The word of `9`. -/
theorem word_nine : Ideal.ofBits .f32 0x41100000#32 = ((9 : ℝ) : EReal) := by
  simp [Ideal.ofBits, Ideal.ieee, -EReal.coe_mul, -EReal.coe_neg]; try norm_num

/-- The word of `64`. -/
theorem word_sixty_four : Ideal.ofBits .f32 0x42800000#32 = ((64 : ℝ) : EReal) := by
  simp [Ideal.ofBits, Ideal.ieee, -EReal.coe_mul, -EReal.coe_neg]; try norm_num

/-- The word of one sixty-fourth. -/
theorem word_sixty_fourth : Ideal.ofBits .f32 0x3C800000#32 = ((1 / 64 : ℝ) : EReal) := by
  simp [Ideal.ofBits, Ideal.ieee, -EReal.coe_mul, -EReal.coe_neg]; try norm_num

/-- The least norm that is divided by, `1e-12` as its word has it. -/
def tiny : ℝ := 9223372 / 9223372036854775808

/-- The word of `1e-12`. -/
theorem word_tiny : Ideal.ofBits .f32 0x2B8CBCCC#32 = ((tiny : ℝ) : EReal) := by
  unfold tiny
  simp [Ideal.ofBits, Ideal.ieee, -EReal.coe_mul, -EReal.coe_neg]; try norm_num

/-- It is positive. -/
theorem tiny_pos : 0 < tiny := by norm_num [tiny]

/-- The word of the first edge. -/
theorem word_edge1 : Ideal.ofBits .f32 0x402FD6AC#32 = ((2880939 / 1048576 : ℝ) : EReal) := by
  simp [Ideal.ofBits, Ideal.ieee, -EReal.coe_mul, -EReal.coe_neg]; try norm_num

/-- The word of the second edge. -/
theorem word_edge2 : Ideal.ofBits .f32 0x3F988B62#32 = ((4998577 / 4194304 : ℝ) : EReal) := by
  simp [Ideal.ofBits, Ideal.ieee, -EReal.coe_mul, -EReal.coe_neg]; try norm_num

/-- The word of the fourth edge. -/
theorem word_edge4 : Ideal.ofBits .f32 0x3E348F0F#32 = ((11833103 / 67108864 : ℝ) : EReal) := by
  simp [Ideal.ofBits, Ideal.ieee, -EReal.coe_mul, -EReal.coe_neg]; try norm_num

/-- The word of the fifth edge. -/
theorem word_edge5 : Ideal.ofBits .f32 0xBE348F0F#32 = ((-(11833103 / 67108864) : ℝ) : EReal) := by
  simp [Ideal.ofBits, Ideal.ieee, -EReal.coe_mul, -EReal.coe_neg]; try norm_num

/-- The word of the seventh edge. -/
theorem word_edge7 : Ideal.ofBits .f32 0xBF988B62#32 = ((-(4998577 / 4194304) : ℝ) : EReal) := by
  simp [Ideal.ofBits, Ideal.ieee, -EReal.coe_mul, -EReal.coe_neg]; try norm_num

/-- The word of the eighth edge. -/
theorem word_edge8 : Ideal.ofBits .f32 0xC02FD6AC#32 = ((-(2880939 / 1048576) : ℝ) : EReal) := by
  simp [Ideal.ofBits, Ideal.ieee, -EReal.coe_mul, -EReal.coe_neg]; try norm_num

/-- The named constant of the third edge. -/
theorem named_cot60 :
    Named.named (F := Ideal) Cert.KernelIdeal.κ "cot60" (φ := .f32) 0x3F13CD3A#32 = (((Real.sqrt 3)⁻¹ : ℝ) : EReal) :=
  IdealRules.named_const.ideal_named_scalar _ _ _ _ rfl

/-- The named constant of the sixth edge. -/
theorem named_cot120 :
    Named.named (F := Ideal) Cert.KernelIdeal.κ "cot120" (φ := .f32) 0xBF13CD3A#32 = ((-((Real.sqrt 3)⁻¹) : ℝ) : EReal) :=
  IdealRules.named_const.ideal_named_scalar _ _ _ _ rfl

/-- A real, divided by a real that is not zero. -/
theorem div_coe_coe {a b : ℝ} (hb : b ≠ 0) : Ideal.div (a : EReal) (b : EReal) = ((a / b : ℝ) : EReal) := by
  rw [Ideal.div_coe hb, ← EReal.coe_mul, mul_one_div]

end Cert.Hog

end
-- ==== Proof.Model.lean ====
/-
  What the programs compute, over the reals: the gradient of an image reflected at its border, the histogram of its
  directions in cells of eight by eight pixels, and the histogram's normalisation. Nothing here mentions a program.
-/
module

public import proofs.«01_k».proof.Proof.Edges
public import proofs.«01_k».proof.Proof.Words

@[expose] public section

noncomputable section

namespace Cert.Hog

/-- One image, by row and column. -/
abbrev Image : Type := Fin 512 → Fin 512 → ℝ

/-- The row or column before, the border reflecting. -/
def before (i : Fin 512) : Fin 512 := if i.val < 1 then 1 else ⟨i.val - 1, by omega⟩

/-- The row or column after, the border reflecting. -/
def after (i : Fin 512) : Fin 512 := if h : i.val < 511 then ⟨i.val + 1, by omega⟩ else ⟨510, by omega⟩

/-- The first gradient: along a row, smoothed across. -/
def gradX (A : Image) (i j : Fin 512) : ℝ :=
  (A (before i) (before j) + 2 * A i (before j) + A (after i) (before j))
    - (A (before i) (after j) + 2 * A i (after j) + A (after i) (after j))

/-- The second gradient: along a column, smoothed across. -/
def gradY (A : Image) (i j : Fin 512) : ℝ :=
  (A (before i) (before j) + 2 * A (before i) j + A (before i) (after j))
    - (A (after i) (before j) + 2 * A (after i) j + A (after i) (after j))

/-- The gradient's length. -/
def magnitude (gx gy : ℝ) : ℝ := √(gx * gx + gy * gy)

/-- What a gradient adds to the bin `b`: its length, if its direction lies in the bin. -/
def share (gx gy : ℝ) (b : Fin 9) : ℝ := if bin gx gy = (b.val : ℤ) then magnitude gx gy else 0

/-- Row or column `k` of the cell `p`. -/
def pixel (p : Fin 64) (k : Fin 8) : Fin 512 := ⟨p.val * 8 + k.val, by omega⟩

/-- The sum of the shares in a cell of eight by eight pixels. -/
def total (A : Image) (b : Fin 9) (p q : Fin 64) : ℝ :=
  ∑ k : Fin 8, ∑ l : Fin 8, share (gradX A (pixel p k) (pixel q l)) (gradY A (pixel p k) (pixel q l)) b

/-- The mean of the shares in a cell. -/
def cell (A : Image) (b : Fin 9) (p q : Fin 64) : ℝ := total A b p q / 64

/-- The length of a cell's histogram, kept from zero. -/
def norm (A : Image) (p q : Fin 64) : ℝ := max (√(∑ b : Fin 9, cell A b p q * cell A b p q)) tiny

/-- The normalised histogram. -/
def hog (A : Image) (b : Fin 9) (p q : Fin 64) : ℝ := cell A b p q / norm A p q

/-- The image has no gradient on an edge that is held as a word. -/
def InGeneralPosition (A : Image) : Prop := ∀ i j, General (gradX A i j) (gradY A i j)

/-- The norm that is divided by is positive. -/
theorem norm_pos (A : Image) (p q : Fin 64) : 0 < norm A p q := lt_of_lt_of_le tiny_pos (le_max_right _ _)

/-- A finite sum of reals is the same among the extended reals. -/
theorem coe_total {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A gradient of zero adds nothing to any bin. -/
theorem share_zero (b : Fin 9) : share 0 0 b = 0 := by
  unfold share magnitude
  split <;> simp

end Cert.Hog

end
-- ==== Proof.KernelGradient.lean ====
/-
  The kernel's block at a pixel, first part: the gradient, its length and the comparisons, of a block that holds a real image.
-/
module

public import proofs.«01_k».proof.Proof.Model
public import proofs.«01_k».proof.Proof.Gen.KernelIdeal.Frame
public import Idealize.ShloMosaic.Lib.Pointwise

@[expose] public section

set_option maxRecDepth 16384

noncomputable section

namespace Cert.Hog

open Cert.KernelIdeal Cert.KernelIdeal.Gen Idealize.ShloMosaic Idealize.SL.Sem

/-- The rows shifted down by one, the second row first: row `i` of it is the row before `i`. -/
theorem rows_before (v : FVec Ideal S512x512 .f32) (i j : Fin 512) :
    concatenate S512x512 0 [⟨S1x512, extractStridedSlice S1x512 ![1, 0] v slices_S512x512_o1_0_S1x512⟩,
      ⟨S511x512, extractStridedSlice S511x512 ![0, 0] v slices_S512x512_o0_0_S511x512⟩]
      concatenates_S1x512_S511x512_S512x512_d0 (ix2 i j) = v (ix2 (before i) j) := by
  by_cases h : i.val < 1
  · have e : before i = 1 := by unfold before; rw [if_pos h]
    rw [e]
    pointwise
    rw [dif_pos h]
    exact congrArg v (congrArg (ix2 · j) (Fin.ext (by show 1 + i.val = 1; omega)))
  · have e : before i = ⟨i.val - 1, by omega⟩ := by unfold before; rw [if_neg h]
    rw [e]
    pointwise
    rw [dif_neg h]

/-- The rows shifted up by one, the last but one last: row `i` of it is the row after `i`. -/
theorem rows_after (v : FVec Ideal S512x512 .f32) (i j : Fin 512) :
    concatenate S512x512 0 [⟨S511x512, extractStridedSlice S511x512 ![1, 0] v slices_S512x512_o1_0_S511x512⟩,
      ⟨S1x512, extractStridedSlice S1x512 ![510, 0] v slices_S512x512_o510_0_S1x512⟩]
      concatenates_S511x512_S1x512_S512x512_d0 (ix2 i j) = v (ix2 (after i) j) := by
  by_cases h : i.val < 511
  · have e : after i = ⟨i.val + 1, by omega⟩ := by unfold after; rw [dif_pos h]
    rw [e]
    pointwise
    rw [dif_pos h]
    exact congrArg v (congrArg (ix2 · j) (Fin.ext (by show 1 + i.val = i.val + 1; omega)))
  · have e : after i = ⟨510, by omega⟩ := by unfold after; rw [dif_neg h]
    rw [e]
    pointwise
    rw [dif_neg h]
    exact congrArg v (congrArg (ix2 · j) (Fin.ext (by show 510 + (i.val - 511) = 510; omega)))

/-- The columns shifted right by one, the second column first. -/
theorem columns_before (v : FVec Ideal S512x512 .f32) (i j : Fin 512) :
    concatenate S512x512 1 [⟨S512x1, extractStridedSlice S512x1 ![0, 1] v slices_S512x512_o0_1_S512x1⟩,
      ⟨S512x511, extractStridedSlice S512x511 ![0, 0] v slices_S512x512_o0_0_S512x511⟩]
      concatenates_S512x1_S512x511_S512x512_d1 (ix2 i j) = v (ix2 i (before j)) := by
  by_cases h : j.val < 1
  · have e : before j = 1 := by unfold before; rw [if_pos h]
    rw [e]
    pointwise
    rw [dif_pos h]
    exact congrArg v (congrArg (ix2 i ·) (Fin.ext (by show 1 + j.val = 1; omega)))
  · have e : before j = ⟨j.val - 1, by omega⟩ := by unfold before; rw [if_neg h]
    rw [e]
    pointwise
    rw [dif_neg h]

/-- The columns shifted left by one, the last but one last. -/
theorem columns_after (v : FVec Ideal S512x512 .f32) (i j : Fin 512) :
    concatenate S512x512 1 [⟨S512x511, extractStridedSlice S512x511 ![0, 1] v slices_S512x512_o0_1_S512x511⟩,
      ⟨S512x1, extractStridedSlice S512x1 ![0, 510] v slices_S512x512_o0_510_S512x1⟩]
      concatenates_S512x511_S512x1_S512x512_d1 (ix2 i j) = v (ix2 i (after j)) := by
  by_cases h : j.val < 511
  · have e : after j = ⟨j.val + 1, by omega⟩ := by unfold after; rw [dif_pos h]
    rw [e]
    pointwise
    rw [dif_pos h]
    exact congrArg v (congrArg (ix2 i ·) (Fin.ext (by show 1 + j.val = j.val + 1; omega)))
  · have e : after j = ⟨510, by omega⟩ := by unfold after; rw [dif_neg h]
    rw [e]
    pointwise
    rw [dif_neg h]
    exact congrArg v (congrArg (ix2 i ·) (Fin.ext (by show 510 + (j.val - 511) = 510; omega)))

/-- A block holds a real image. -/
def Holds (x : Vec Ideal S1x1x512x512 .f32) (A : Image) : Prop := ∀ i j, x (ix4 0 0 i j) = ((A i j : ℝ) : EReal)

/-- The block rounded to the narrow format and back is, over the extended reals, the block. -/
theorem pay2_apply {x : Vec Ideal S1x1x512x512 .f32} {A : Image} (h : Holds x A) (i j : Fin 512) :
    k0_pay2 x (ix2 i j) = ((A i j : ℝ) : EReal) := by
  pointwise [k0_pay2]
  exact h i j

/-- The kernel's first gradient at a pixel. -/
theorem pay3_apply {x : Vec Ideal S1x1x512x512 .f32} {A : Image} (h : Holds x A) (i j : Fin 512) :
    k0_pay3 x (ix2 i j) = ((gradX A i j : ℝ) : EReal) := by
  have e := pay2_apply h
  unfold k0_pay3
  generalize k0_pay2 x = v at e ⊢
  simp only [subf_apply, columns_before, columns_after, addf_apply, mulf_apply, rows_before, rows_after,
    Ideal.subf_def, Ideal.addf_def, Ideal.mulf_def, Ideal.ofBits_def, Scalar.ofBits, broadcast, word_two, e]
  unfold gradX
  push_cast
  rfl

/-- The kernel's second gradient at a pixel. -/
theorem pay4_apply {x : Vec Ideal S1x1x512x512 .f32} {A : Image} (h : Holds x A) (i j : Fin 512) :
    k0_pay4 x (ix2 i j) = ((gradY A i j : ℝ) : EReal) := by
  have e := pay2_apply h
  unfold k0_pay4
  generalize k0_pay2 x = v at e ⊢
  simp only [subf_apply, columns_before, columns_after, addf_apply, mulf_apply, rows_before, rows_after,
    Ideal.subf_def, Ideal.addf_def, Ideal.mulf_def, Ideal.ofBits_def, Scalar.ofBits, broadcast, word_two, e]
  unfold gradY
  push_cast
  rfl

/-- The gradient's length at a pixel. -/
theorem pay5_apply {x : Vec Ideal S1x1x512x512 .f32} {A : Image} (h : Holds x A) (i j : Fin 512) :
    k0_pay5 x (ix2 i j) = ((magnitude (gradX A i j) (gradY A i j) : ℝ) : EReal) := by
  pointwise [k0_pay5]
  rw [pay3_apply h, pay4_apply h, ← EReal.coe_mul, ← EReal.coe_mul, ← EReal.coe_add, Ideal.sqrt_coe, if_neg]
  · rfl
  · exact not_lt.2 (add_nonneg (mul_self_nonneg _) (mul_self_nonneg _))

end Cert.Hog

end
-- ==== Proof.KernelShare.lean ====
/-
  The kernel's block at a pixel, second part: the slope, its comparison with the eight held edges, and the share of the
  gradient's length that the masks between two edges let through.
-/
module

public import proofs.«01_k».proof.Proof.KernelGradient

@[expose] public section

set_option maxRecDepth 16384

noncomputable section

namespace Cert.Hog

open Cert.KernelIdeal Cert.KernelIdeal.Gen Idealize.ShloMosaic Idealize.SL.Sem

/-- The slope as the kernel's division gives it: `gy / gx` where `gx` is not zero; else the upper infinity, or the lower one
    where both are zero. -/
def slope (gx gy : ℝ) : EReal := if gx = 0 then (if gy = 0 then ⊥ else ⊤) else ((gy / gx : ℝ) : EReal)

/-- Dividing the one gradient, its sign made that of a positive first gradient, by the first's absolute value. -/
theorem div_eq_slope (gx gy : ℝ) :
    Ideal.div (if (0 : EReal) < (gx : EReal) then (gy : EReal)
      else if (gx : EReal) < 0 then 0 - (gy : EReal) else max (gy : EReal) (-(gy : EReal))) (max (gx : EReal) (-(gx : EReal)))
    = slope gx gy := by
  unfold slope
  rcases lt_trichotomy gx 0 with h | h | h
  · have e : max (gx : EReal) (-(gx : EReal)) = ((-gx : ℝ) : EReal) := by
      rw [← EReal.coe_neg]; exact max_eq_right (by exact_mod_cast (by linarith : gx ≤ -gx))
    rw [if_neg (by simpa using h.le), if_pos (by simpa using h), if_neg h.ne, e, Ideal.div_coe (by linarith), zero_sub,
      ← EReal.coe_neg, ← EReal.coe_mul]
    congr 1
    field_simp
  · subst h
    rw [if_neg (by simp), if_neg (by simp), if_pos rfl]
    simp only [EReal.coe_zero, neg_zero, max_self, Ideal.div, ↓reduceIte]
    by_cases hy : gy = 0
    · subst hy; simp
    · rw [if_neg hy, if_pos]
      rcases lt_or_gt_of_ne hy with h | h
      · exact lt_max_of_lt_right (by rw [← EReal.coe_neg]; exact_mod_cast (by linarith : 0 < -gy))
      · exact lt_max_of_lt_left (by exact_mod_cast h)
  · have e : max (gx : EReal) (-(gx : EReal)) = (gx : EReal) := by
      rw [← EReal.coe_neg]; exact max_eq_left (by exact_mod_cast (by linarith : -gx ≤ gx))
    rw [if_pos (by simpa using h), if_neg h.ne', e, Ideal.div_coe h.ne', ← EReal.coe_mul]
    congr 1
    field_simp

/-- The kernel's slope at a pixel. -/
theorem slope_apply {x : Vec Ideal S1x1x512x512 .f32} {A : Image} (h : Holds x A) (i j : Fin 512) :
    k0_pay11 (k0_pay4 x) (k0_pay6 x) (k0_pay7 x) (k0_pay8 x) (k0_pay9 x) (k0_pay10 x) (ix2 i j)
      = slope (gradX A i j) (gradY A i j) := by
  pointwise [k0_pay11, k0_pay6, k0_pay7, k0_pay8, k0_pay9, k0_pay10]
  rw [pay3_apply h, pay4_apply h]
  exact div_eq_slope _ _

/-- The mask bit of the edge `k`: set before the first edge, clear after the last, and between them set where the slope is
    at most what is held for the edge. -/
def mask (gx gy : ℝ) (k : ℕ) : BitVec 1 :=
  if k = 0 then 1#1 else if k = 9 then 0#1 else BitVec.ofBool (decide (slope gx gy ≤ ((held k : ℝ) : EReal)))

/-- The kernel's eight masks at a pixel. -/
theorem masks_apply {x : Vec Ideal S1x1x512x512 .f32} {A : Image} (h : Holds x A) (i j : Fin 512) :
    k0_pay12 (k0_pay4 x) (k0_pay6 x) (k0_pay7 x) (k0_pay8 x) (k0_pay9 x) (k0_pay10 x) (ix2 i j) = mask (gradX A i j) (gradY A i j) 1
    ∧ k0_pay13 (k0_pay4 x) (k0_pay6 x) (k0_pay7 x) (k0_pay8 x) (k0_pay9 x) (k0_pay10 x) (ix2 i j) = mask (gradX A i j) (gradY A i j) 2
    ∧ k0_pay14 (k0_pay4 x) (k0_pay6 x) (k0_pay7 x) (k0_pay8 x) (k0_pay9 x) (k0_pay10 x) (ix2 i j) = mask (gradX A i j) (gradY A i j) 3
    ∧ k0_pay15 (k0_pay4 x) (k0_pay6 x) (k0_pay7 x) (k0_pay8 x) (k0_pay9 x) (k0_pay10 x) (ix2 i j) = mask (gradX A i j) (gradY A i j) 4
    ∧ k0_pay16 (k0_pay4 x) (k0_pay6 x) (k0_pay7 x) (k0_pay8 x) (k0_pay9 x) (k0_pay10 x) (ix2 i j) = mask (gradX A i j) (gradY A i j) 5
    ∧ k0_pay17 (k0_pay4 x) (k0_pay6 x) (k0_pay7 x) (k0_pay8 x) (k0_pay9 x) (k0_pay10 x) (ix2 i j) = mask (gradX A i j) (gradY A i j) 6
    ∧ k0_pay18 (k0_pay4 x) (k0_pay6 x) (k0_pay7 x) (k0_pay8 x) (k0_pay9 x) (k0_pay10 x) (ix2 i j) = mask (gradX A i j) (gradY A i j) 7
    ∧ k0_pay19 (k0_pay4 x) (k0_pay6 x) (k0_pay7 x) (k0_pay8 x) (k0_pay9 x) (k0_pay10 x) (ix2 i j) = mask (gradX A i j) (gradY A i j) 8 := by
  have e := slope_apply h i j
  refine ⟨?_, ?_, ?_, ?_, ?_, ?_, ?_, ?_⟩
  · pointwise [k0_pay12]; rw [e, word_edge1]; norm_num [mask, held]
  · pointwise [k0_pay13]; rw [e, word_edge2]; norm_num [mask, held]
  · pointwise [k0_pay14]; rw [e, named_cot60]; norm_num [mask, held]
  · pointwise [k0_pay15]; rw [e, word_edge4]; norm_num [mask, held]
  · pointwise [k0_pay16]; rw [e, word_edge5]; norm_num [mask, held]
  · pointwise [k0_pay17]; rw [e, named_cot120, mask, if_neg (by decide), if_neg (by decide)]; rfl
  · pointwise [k0_pay18]; rw [e, word_edge7]; norm_num [mask, held]
  · pointwise [k0_pay19]; rw [e, word_edge8]; norm_num [mask, held]

/-- In general position the mask of an edge is set exactly where the bin is at or past the edge, except where the gradient
    is zero. -/
theorem mask_eq {gx gy : ℝ} (hg : General gx gy) (hne : ¬ (gx = 0 ∧ gy = 0)) {k : ℕ} (hk : k ≤ 9) :
    mask gx gy k = BitVec.ofBool (decide ((k : ℤ) ≤ bin gx gy)) := by
  have hr := bin_range gx gy
  unfold mask
  by_cases h0 : k = 0
  · subst h0
    rw [if_pos rfl, decide_eq_true (by simpa using hr.1)]; rfl
  rw [if_neg h0]
  by_cases h9 : k = 9
  · subst h9
    rw [if_pos rfl, decide_eq_false (by push_cast; omega)]; rfl
  rw [if_neg h9]
  congr 1
  rw [decide_eq_decide]
  unfold slope
  by_cases hx : gx = 0
  · subst hx
    rw [if_pos rfl, if_neg fun h => hne ⟨rfl, h⟩, bin_of_zero]
    constructor
    · intro h; exact absurd h (by simp)
    · intro h; omega
  · rw [if_neg hx, EReal.coe_le_coe_iff]
    exact le_held_iff hx hg (by omega) (by omega)

/-- What the masks of a bin's two edges let through of the gradient's length is the bin's share. -/
theorem select_eq_share {gx gy : ℝ} (hg : General gx gy) (b : Fin 9) :
    Scalar.select (IntOp.andi (mask gx gy b.val) (IntOp.xori (mask gx gy (b.val + 1)) 1#1)) ((magnitude gx gy : ℝ) : EReal) 0
      = ((share gx gy b : ℝ) : EReal) := by
  by_cases hz : gx = 0 ∧ gy = 0
  · obtain ⟨rfl, rfl⟩ := hz
    rw [share_zero]
    simp [Scalar.select, magnitude]
  · rw [mask_eq hg hz (by omega), mask_eq hg hz (by omega)]
    have hr := bin_range gx gy
    unfold share
    by_cases hb : bin gx gy = (b.val : ℤ)
    · rw [if_pos hb, decide_eq_true (by omega), decide_eq_false (by push_cast; omega)]
      rfl
    · rw [if_neg hb]
      rcases lt_or_gt_of_ne hb with h | h
      · rw [decide_eq_false (by omega), decide_eq_false (by push_cast; omega)]
        rfl
      · rw [decide_eq_true (by omega), decide_eq_true (by push_cast; omega)]
        rfl

end Cert.Hog

end
-- ==== Proof.KernelCells.lean ====
/-
  The kernel's block at a cell: the sums over cells of eight by eight pixels as the kernel takes them, down the rows by a
  reduction and along the columns by a product with a matrix of zeros and ones.
-/
module

public import proofs.«01_k».proof.Proof.KernelShare

@[expose] public section

set_option maxRecDepth 16384

noncomputable section

namespace Cert.Hog

open Cert.KernelIdeal Cert.KernelIdeal.Gen Idealize.ShloMosaic Idealize.SL.Sem

/-- The quotient by eight, rounded down, of a column's number as words: what the kernel's remainders and signs leave of it. -/
theorem column_word (i : Fin 512) :
    select k0_pay23 (subi k0_pay22 (broadcast S512x64 1#32)) k0_pay22 (ix2 i 0) = BitVec.ofNat 32 (i.val / 8) := by
  pointwise [k0_pay22, k0_pay23]
  revert i
  decide +kernel

/-- The matrix that gathers columns into cells: one where the column lies in the cell, zero elsewhere. -/
theorem pool_apply (i : Fin 512) (q : Fin 64) :
    k0_pay24 (F := Ideal) k0_pay22 k0_pay23 1#32 (ix2 i q) = (((if i.val / 8 = q.val then 1 else 0 : ℝ)) : EReal) := by
  have e : select k0_pay23 (subi k0_pay22 (broadcast S512x64 1#32)) k0_pay22 (ix2 i q) = BitVec.ofNat 32 (i.val / 8) := by
    rw [← column_word i]
    pointwise [k0_pay22, k0_pay23]
  unfold k0_pay24
  simp only []
  generalize select k0_pay23 (subi k0_pay22 (broadcast S512x64 1#32)) k0_pay22 = w at e ⊢
  pointwise
  rw [e]
  have hi : i.val / 8 < 64 := by omega
  have hq := q.isLt
  generalize i.val / 8 = a at hi ⊢
  generalize q.val = b at hq ⊢
  by_cases h : a = b
  · subst h
    rw [if_pos rfl]
    simp [IntOp.cmpi, FloatOps.sitofp]
  · have hne : BitVec.ofNat 32 a ≠ BitVec.ofNat 32 b := by
      intro hw
      have := congrArg BitVec.toNat hw
      simp only [BitVec.toNat_ofNat] at this
      omega
    have hb : (BitVec.ofNat 32 a == BitVec.ofNat 32 b) = false := beq_eq_false_iff_ne.mpr hne
    rw [if_neg h]
    simp [IntOp.cmpi, hb, FloatOps.sitofp]

/-- A sum over the columns with the matrix's entries is the sum over the cell's eight columns. -/
theorem sum_pool (g : Fin 512 → ℝ) (q : Fin 64) :
    ∑ x : Fin 512, g x * (if x.val / 8 = q.val then 1 else 0 : ℝ) = ∑ l : Fin 8, g (pixel q l) := by
  rw [← Equiv.sum_comp (finProdFinEquiv (m := 64) (n := 8)), Fintype.sum_prod_type, Finset.sum_eq_single q]
  · refine Finset.sum_congr rfl fun l _ => ?_
    have e : (finProdFinEquiv (q, l) : Fin (64 * 8)) = pixel q l := Fin.ext (by
      show l.val + 8 * q.val = q.val * 8 + l.val; omega)
    rw [e, if_pos (by show (q.val * 8 + l.val) / 8 = q.val; omega), mul_one]
  · intro r _ hr
    refine Finset.sum_eq_zero fun l _ => ?_
    rw [if_neg, mul_zero]
    show ¬ (l.val + 8 * r.val) / 8 = q.val
    intro h
    exact hr (Fin.ext (by omega))
  · intro h; exact absurd (Finset.mem_univ q) h

/-- A cell's entry of a histogram as the kernel takes it: of the length `v`, what two masks let through, summed over the
    cell and divided by its pixels. -/
def hist (v : FVec Ideal S512x512 .f32) (lo hi : IVec S512x512 1) : FVec Ideal S64x64 .f32 :=
  mulf (matmul dot_S64x512_S512x64_S64x64_1_0_0_1_n_n none
      (multiReduction .add [1] S64x512
        (shapeCast S64x8x512
          (select (andi lo (xori hi (constantI S512x512 1 1#1))) v (broadcast S512x512 (Scalar.ofBits .f32 0x00000000#32)))
          shapeCasts_S512x512_S64x8x512) 0x00000000#32 reduces_S64x8x512_S64x512 (.inl rfl) rfl)
      (k0_pay24 (F := Ideal) k0_pay22 k0_pay23 1#32) (constant S64x64 .f32 0x00000000#32))
    (broadcast S64x64 (Scalar.ofBits .f32 0x3C800000#32))

/-- A histogram's entry at a cell: the mean of the shares. -/
theorem hist_apply {A : Image} (hA : InGeneralPosition A) (b : Fin 9) {v : FVec Ideal S512x512 .f32} {lo hi : IVec S512x512 1}
    (hv : ∀ i j, v (ix2 i j) = ((magnitude (gradX A i j) (gradY A i j) : ℝ) : EReal))
    (hlo : ∀ i j, lo (ix2 i j) = mask (gradX A i j) (gradY A i j) b.val)
    (hhi : ∀ i j, hi (ix2 i j) = mask (gradX A i j) (gradY A i j) (b.val + 1)) (p q : Fin 64) :
    hist v lo hi (ix2 p q) = ((cell A b p q : ℝ) : EReal) := by
  have hs : ∀ i j, select (andi lo (xori hi (constantI S512x512 1 1#1))) v
      (broadcast S512x512 (Scalar.ofBits .f32 0x00000000#32)) (ix2 i j)
        = ((share (gradX A i j) (gradY A i j) b : ℝ) : EReal) := by
    intro i j
    pointwise
    rw [hv, hlo, hhi]
    exact select_eq_share (hA i j) b
  unfold hist
  generalize select (andi lo (xori hi (constantI S512x512 1 1#1))) v
      (broadcast S512x512 (Scalar.ofBits .f32 0x00000000#32)) = w at hs ⊢
  have hp := pool_apply
  generalize k0_pay24 (F := Ideal) k0_pay22 k0_pay23 1#32 = pool at hp ⊢
  pointwise
  simp only [hs, hp, word_sixty_fourth, ← EReal.coe_mul, ← coe_total]
  refine congrArg Real.toEReal ((congrArg (· * (1 / 64 : ℝ))
    (sum_pool (fun x => ∑ k : Fin 8, share (gradX A (pixel p k) x) (gradY A (pixel p k) x) b) q)).trans ?_)
  show (∑ l : Fin 8, ∑ k : Fin 8, share (gradX A (pixel p k) (pixel q l)) (gradY A (pixel p k) (pixel q l)) b) * (1 / 64)
    = cell A b p q
  rw [Finset.sum_comm, ← div_eq_mul_one_div]
  rfl

end Cert.Hog

end
-- ==== Proof.KernelBlock.lean ====
/-
  The kernel's block, whole: the nine planes of the staged result hold the nine entries of the normalised histograms.
-/
module

public import proofs.«01_k».proof.Proof.KernelCells
public import Idealize.ShloMosaic.Lib.Pipeline.ValueKit.Tiles

@[expose] public section

set_option maxRecDepth 16384

noncomputable section

namespace Cert.Hog

open Cert.KernelIdeal Cert.KernelIdeal.Gen Idealize.ShloMosaic Idealize.SL.Sem

/-- The reciprocal that the kernel multiplies a cell's entries by. -/
theorem inverse_apply {A : Image} (p q : Fin 64) (v41 : FVec Ideal S512x512 .f32) (v68 v70 c : IVec S512x512 1)
    (v99 : FVec Ideal S512x64 .f32) (v108 v117 v126 v135 v144 v153 v162 v171 : FVec Ideal S64x64 .f32)
    (e0 : v108 (ix2 p q) = ((cell A 0 p q : ℝ) : EReal)) (e1 : v117 (ix2 p q) = ((cell A 1 p q : ℝ) : EReal))
    (e2 : v126 (ix2 p q) = ((cell A 2 p q : ℝ) : EReal)) (e3 : v135 (ix2 p q) = ((cell A 3 p q : ℝ) : EReal))
    (e4 : v144 (ix2 p q) = ((cell A 4 p q : ℝ) : EReal)) (e5 : v153 (ix2 p q) = ((cell A 5 p q : ℝ) : EReal))
    (e6 : v162 (ix2 p q) = ((cell A 6 p q : ℝ) : EReal)) (e7 : v171 (ix2 p q) = ((cell A 7 p q : ℝ) : EReal))
    (e8 : k0_pay34 v41 v68 v70 v99 c (ix2 p q) = ((cell A 8 p q : ℝ) : EReal)) :
    k0_pay35 v41 v68 v70 v99 v108 v117 v126 v135 v144 v153 v162 v171 c (ix2 p q) = ((1 / norm A p q : ℝ) : EReal) := by
  have hs : cell A 0 p q * cell A 0 p q + cell A 1 p q * cell A 1 p q + cell A 2 p q * cell A 2 p q
      + cell A 3 p q * cell A 3 p q + cell A 4 p q * cell A 4 p q + cell A 5 p q * cell A 5 p q
      + cell A 6 p q * cell A 6 p q + cell A 7 p q * cell A 7 p q + cell A 8 p q * cell A 8 p q
      = ∑ b : Fin 9, cell A b p q * cell A b p q := by
    rw [Fin.sum_univ_castSucc, Fin.sum_univ_eight]
    rfl
  pointwise [k0_pay35]
  rw [e0, e1, e2, e3, e4, e5, e6, e7, e8, word_tiny]
  simp only [← EReal.coe_mul, ← EReal.coe_add]
  rw [hs, Ideal.sqrt_coe, if_neg (not_lt.mpr (Finset.sum_nonneg fun b _ => mul_self_nonneg _)),
    ← EReal.coe_strictMono.monotone.map_max, ← EReal.coe_one]
  exact div_coe_coe (norm_pos A p q).ne'

/-- An index of one plane is its row and its column. -/
theorem plane_index {x : S1x1x64x64.Idx} {p q : Fin 64} (h2 : p.val = (x 2).val) (h3 : q.val = (x 3).val) :
    x = ix4 0 0 p q := by
  idx_vars x
  obtain rfl := Fin.ext h2
  obtain rfl := Fin.ext h3
  rw [Subsingleton.elim x0 0, Subsingleton.elim x1 0]

/-- The staged result at an entry, from a staged input that holds a real image in general position. -/
theorem block_apply {x0 : Vec Ideal S1x1x512x512 .f32} {A : Image} (hx : Holds x0 A) (hA : InGeneralPosition A)
    (b : Fin 9) (p q : Fin 64) : out0_1 x0 (ix4 0 b p q) = ((hog A b p q : ℝ) : EReal) := by
  have h : Holds (View.ld x0 r0_0) A := by
    intro i j
    rw [← hx i j]
    unfold r0_0
    pointwise
  have hv : ∀ i j, k0_pay47 x0 (ix2 i j) = ((magnitude (gradX A i j) (gradY A i j) : ℝ) : EReal) := fun i j => pay5_apply h i j
  have m0 : ∀ i j, k0_pay20 (ix2 i j) = mask (gradX A i j) (gradY A i j) 0 := fun i j => rfl
  have m1 : ∀ i j, k0_pay53 x0 (ix2 i j) = mask (gradX A i j) (gradY A i j) 1 := fun i j => (masks_apply h i j).1
  have m2 : ∀ i j, k0_pay54 x0 (ix2 i j) = mask (gradX A i j) (gradY A i j) 2 := fun i j => (masks_apply h i j).2.1
  have m3 : ∀ i j, k0_pay55 x0 (ix2 i j) = mask (gradX A i j) (gradY A i j) 3 := fun i j => (masks_apply h i j).2.2.1
  have m4 : ∀ i j, k0_pay56 x0 (ix2 i j) = mask (gradX A i j) (gradY A i j) 4 := fun i j => (masks_apply h i j).2.2.2.1
  have m5 : ∀ i j, k0_pay57 x0 (ix2 i j) = mask (gradX A i j) (gradY A i j) 5 := fun i j => (masks_apply h i j).2.2.2.2.1
  have m6 : ∀ i j, k0_pay58 x0 (ix2 i j) = mask (gradX A i j) (gradY A i j) 6 := fun i j => (masks_apply h i j).2.2.2.2.2.1
  have m7 : ∀ i j, k0_pay59 x0 (ix2 i j) = mask (gradX A i j) (gradY A i j) 7 := fun i j => (masks_apply h i j).2.2.2.2.2.2.1
  have m8 : ∀ i j, k0_pay60 x0 (ix2 i j) = mask (gradX A i j) (gradY A i j) 8 := fun i j => (masks_apply h i j).2.2.2.2.2.2.2
  have m9 : ∀ i j, k0_pay61 x0 (ix2 i j) = mask (gradX A i j) (gradY A i j) 9 := fun i j => rfl
  have e0 : k0_pay65 x0 (ix2 p q) = ((cell A 0 p q : ℝ) : EReal) := hist_apply hA 0 hv m0 m1 p q
  have e1 : k0_pay66 x0 (ix2 p q) = ((cell A 1 p q : ℝ) : EReal) := hist_apply hA 1 hv m1 m2 p q
  have e2 : k0_pay67 x0 (ix2 p q) = ((cell A 2 p q : ℝ) : EReal) := hist_apply hA 2 hv m2 m3 p q
  have e3 : k0_pay69 x0 (ix2 p q) = ((cell A 3 p q : ℝ) : EReal) := hist_apply hA 3 hv m3 m4 p q
  have e4 : k0_pay70 x0 (ix2 p q) = ((cell A 4 p q : ℝ) : EReal) := hist_apply hA 4 hv m4 m5 p q
  have e5 : k0_pay71 x0 (ix2 p q) = ((cell A 5 p q : ℝ) : EReal) := hist_apply hA 5 hv m5 m6 p q
  have e6 : k0_pay72 x0 (ix2 p q) = ((cell A 6 p q : ℝ) : EReal) := hist_apply hA 6 hv m6 m7 p q
  have e7 : k0_pay73 x0 (ix2 p q) = ((cell A 7 p q : ℝ) : EReal) := hist_apply hA 7 hv m7 m8 p q
  have e8 : k0_pay34 (k0_pay47 x0) (k0_pay60 x0) (k0_pay61 x0) (k0_pay64 x0) (k0_pay68 x0) (ix2 p q)
      = ((cell A 8 p q : ℝ) : EReal) := hist_apply hA 8 hv m8 m9 p q
  have ei : k0_pay74 x0 (ix2 p q) = ((1 / norm A p q : ℝ) : EReal) :=
    inverse_apply p q _ _ _ _ _ _ _ _ _ _ _ _ _ e0 e1 e2 e3 e4 e5 e6 e7 e8
  have hd : ∀ b, ((cell A b p q : ℝ) : EReal) * ((1 / norm A p q : ℝ) : EReal) = ((hog A b p q : ℝ) : EReal) := by
    intro b
    rw [← EReal.coe_mul, mul_one_div]
    rfl
  unfold out0_1
  canon_tiles x hh
  · obtain rfl : b = 8 := Fin.ext (by have : b.val = 8 + (x 1).val := hh1; show b.val = 8; omega)
    rw [plane_index hh2 hh3]
    pointwise [k0_pay1, k0_pay45]
    rw [e8, ei]; exact hd _
  · obtain rfl : b = 7 := Fin.ext (by have : b.val = 7 + (x 1).val := hh1; show b.val = 7; omega)
    rw [plane_index hh2 hh3]
    pointwise [k0_pay44]
    rw [e7, ei]; exact hd _
  · obtain rfl : b = 6 := Fin.ext (by have : b.val = 6 + (x 1).val := hh1; show b.val = 6; omega)
    rw [plane_index hh2 hh3]
    pointwise [k0_pay43]
    rw [e6, ei]; exact hd _
  · obtain rfl : b = 5 := Fin.ext (by have : b.val = 5 + (x 1).val := hh1; show b.val = 5; omega)
    rw [plane_index hh2 hh3]
    pointwise [k0_pay42]
    rw [e5, ei]; exact hd _
  · obtain rfl : b = 4 := Fin.ext (by have : b.val = 4 + (x 1).val := hh1; show b.val = 4; omega)
    rw [plane_index hh2 hh3]
    pointwise [k0_pay41]
    rw [e4, ei]; exact hd _
  · obtain rfl : b = 3 := Fin.ext (by have : b.val = 3 + (x 1).val := hh1; show b.val = 3; omega)
    rw [plane_index hh2 hh3]
    pointwise [k0_pay40]
    rw [e3, ei]; exact hd _
  · obtain rfl : b = 2 := Fin.ext (by have : b.val = 2 + (x 1).val := hh1; show b.val = 2; omega)
    rw [plane_index hh2 hh3]
    pointwise [k0_pay39, k0_pay38]
    rw [e2]; exact (congrArg _ ei).trans (hd _)
  · obtain rfl : b = 1 := Fin.ext (by have : b.val = 1 + (x 1).val := hh1; show b.val = 1; omega)
    rw [plane_index hh2 hh3]
    pointwise [k0_pay37]
    rw [e1]; exact (congrArg _ ei).trans (hd _)
  · obtain rfl : b = 0 := Fin.ext (by have : b.val = (x 1).val := hh1; show b.val = 0; omega)
    rw [plane_index hh2 hh3]
    pointwise [k0_pay36]
    rw [e0]; exact (congrArg _ ei).trans (hd _)

end Cert.Hog

end
-- ==== Proof.KernelArray.lean ====
/-
  The kernel's result array: every entry of it is an entry of its image's normalised histograms.
-/
module

public import proofs.«01_k».proof.Proof.KernelBlock
public import proofs.«01_k».proof.Proof.Gen.KernelIdeal.Value
public import Idealize.ShloMosaic.Lib.Pipeline.ValueKit

@[expose] public section

set_option maxRecDepth 16384

noncomputable section

namespace Cert.Hog

open Cert.KernelIdeal Cert.KernelIdeal.Gen Idealize.ShloMosaic Idealize.ShloMosaic.TcCoe Idealize.SL.Sem

/-- The normalised histograms of every image, as the result is laid out. -/
def hogs (X : Fin 32 → Image) : S32x9x64x64.Idx → EReal := fun y => ((hog (X (y 0)) (y 1) (y 2) (y 3) : ℝ) : EReal)

/-- Grid point `t` reads image `t` and writes the histograms of image `t`. -/
theorem points (t : Fin cfg0.N) :
    win0_0.index t = ![t.val, 0, 0, 0] ∧ win0_1.index t = ![t.val, 0, 0, 0] ∧ t.val < 32 :=
  (by decide +kernel : ∀ t : Fin grid0.N,
    win0_0.index t = ![t.val, 0, 0, 0] ∧ win0_1.index t = ![t.val, 0, 0, 0] ∧ t.val < 32) t

/-- After the run the result array holds the normalised histograms, if the argument holds real images in general position. -/
theorem array_eq (m : (ℓ : Loc nD τ sig) → Buf (Elt Ideal) ℓ) (c : Dev nD) (X : Fin 32 → Image)
    (hX : ∀ n i j, m ((c : Thread nD τ).loc main_arg0) (ix4 n 0 i j) = ((X n i j : ℝ) : EReal))
    (hA : ∀ n, InGeneralPosition (X n)) :
    (dats m 0 c).arrAt 1 cfg0.N = hogs X := by
  refine (dats m 0 c).arrAt_eq_of_covers 1 _ (by decide +kernel) fun t hf y => ?_
  obtain ⟨e0, e1, ht⟩ := points t
  have hold : Holds (iblk m c 0 t) (X ⟨t.val, ht⟩) := by
    intro i j
    rw [← hX]
    blk_ext [iblk, V, e0]
  blk_simp
  rw [after0_1]
  obtain ⟨b, p, q, rfl⟩ : ∃ (b : Fin 9) (p q : Fin 64), y = ix4 0 b p q := by
    refine ⟨y 1, y 2, y 3, (eq_ix4 (y : S1x9x64x64.Idx)).trans ?_⟩
    rw [Subsingleton.elim (α := Fin 1) ((y : S1x9x64x64.Idx) 0) 0]
  have e : (win0_1.blk t).view.emb (ix4 0 b p q) = ix4 (⟨t.val, ht⟩ : Fin 32) b p q := by
    blk_ext [e1]
  rw [e]
  exact block_apply hold (hA _) b p q

end Cert.Hog

end
-- ==== Proof.Padding.lean ====
/-
  The image with a border of one row and one column on every side, the border reflecting, as the reference builds it, and what
  its entries are.
-/
module

public import proofs.«01_k».proof.Proof.Model
public import proofs.«01_k».proof.Proof.Gen.ReferenceIdeal
public import Idealize.ShloMosaic.Lib.Pointwise

@[expose] public section

set_option maxRecDepth 16384

noncomputable section

namespace Cert.Hog

open Cert.ReferenceIdeal Cert.ReferenceIdeal.Gen Idealize.ShloMosaic Idealize.SL.Sem

/-- The images with the second row put before the first. -/
def rowsTop (x : FVec Ideal S32x1x512x512 .f32) : FVec Ideal S32x1x513x512 .f32 :=
  concatenate S32x1x513x512 2 [⟨S32x1x1x512, Host.reverse [2]
      (extractStridedSlice S32x1x1x512 ![0, 0, 1, 0] x slices_S32x1x512x512_S32x1x1x512_0_0_1_0)⟩, ⟨S32x1x512x512, x⟩]
    concatenates_S32x1x1x512_S32x1x512x512_S32x1x513x512_d2

/-- Then with the last row but one put after the last. -/
def rowsBoth (x : FVec Ideal S32x1x512x512 .f32) : FVec Ideal S32x1x514x512 .f32 :=
  concatenate S32x1x514x512 2 [⟨S32x1x513x512, rowsTop x⟩, ⟨S32x1x1x512, Host.reverse [2]
      (extractStridedSlice S32x1x1x512 ![0, 0, 511, 0] (rowsTop x) slices_S32x1x513x512_S32x1x1x512_0_0_511_0)⟩]
    concatenates_S32x1x513x512_S32x1x1x512_S32x1x514x512_d2

/-- Then with the second column put before the first. -/
def columnsLeft (x : FVec Ideal S32x1x512x512 .f32) : FVec Ideal S32x1x514x513 .f32 :=
  concatenate S32x1x514x513 3 [⟨S32x1x514x1, Host.reverse [3]
      (extractStridedSlice S32x1x514x1 ![0, 0, 0, 1] (rowsBoth x) slices_S32x1x514x512_S32x1x514x1_0_0_0_1)⟩,
      ⟨S32x1x514x512, rowsBoth x⟩]
    concatenates_S32x1x514x1_S32x1x514x512_S32x1x514x513_d3

/-- The padded images: with the last column but one put after the last as well. -/
def padded (x : FVec Ideal S32x1x512x512 .f32) : FVec Ideal S32x1x514x514 .f32 :=
  concatenate S32x1x514x514 3 [⟨S32x1x514x513, columnsLeft x⟩, ⟨S32x1x514x1, Host.reverse [3]
      (extractStridedSlice S32x1x514x1 ![0, 0, 0, 511] (columnsLeft x) slices_S32x1x514x513_S32x1x514x1_0_0_0_511)⟩]
    concatenates_S32x1x514x513_S32x1x514x1_S32x1x514x514_d3

/-- The row or column of the image that a row or column of the padded image repeats. -/
def inner (r : Fin 514) : Fin 512 :=
  if r.val < 1 then ⟨1, by omega⟩ else if h : r.val < 513 then ⟨r.val - 1, by omega⟩ else ⟨510, by omega⟩

/-- A row of the images with the upper border. -/
theorem rowsTop_apply (x : FVec Ideal S32x1x512x512 .f32) (n : Fin 32) (r : Fin 513) (s : Fin 512) :
    rowsTop x (ix4 n 0 r s) = x (ix4 n 0 (inner ⟨r.val, by omega⟩) s) := by
  unfold inner
  by_cases h : r.val < 1
  · rw [if_pos h]
    pointwise [rowsTop]
    rw [dif_pos h]
    rfl
  · rw [if_neg h, dif_pos (show r.val < 513 by omega)]
    pointwise [rowsTop]
    rw [dif_neg h]

/-- A row of the images with both borders. -/
theorem rowsBoth_apply (x : FVec Ideal S32x1x512x512 .f32) (n : Fin 32) (r : Fin 514) (s : Fin 512) :
    rowsBoth x (ix4 n 0 r s) = x (ix4 n 0 (inner r) s) := by
  by_cases h : r.val < 513
  · pointwise [rowsBoth]
    rw [dif_pos h]
    exact rowsTop_apply x n ⟨r.val, h⟩ s
  · have e : inner r = inner 511 := by
      unfold inner
      rw [if_neg (by omega), dif_neg h]
      rfl
    rw [e]
    pointwise [rowsBoth]
    rw [dif_neg h]
    exact rowsTop_apply x n 511 s

/-- A column of the images with the left border. -/
theorem columnsLeft_apply (x : FVec Ideal S32x1x512x512 .f32) (n : Fin 32) (r : Fin 514) (s : Fin 513) :
    columnsLeft x (ix4 n 0 r s) = x (ix4 n 0 (inner r) (inner ⟨s.val, by omega⟩)) := by
  rw [← rowsBoth_apply x n r]
  unfold inner
  by_cases h : s.val < 1
  · rw [if_pos h]
    pointwise [columnsLeft]
    rw [dif_pos h]
    rfl
  · rw [if_neg h, dif_pos (show s.val < 513 by omega)]
    pointwise [columnsLeft]
    rw [dif_neg h]

/-- An entry of the padded images. -/
theorem padded_apply (x : FVec Ideal S32x1x512x512 .f32) (n : Fin 32) (r s : Fin 514) :
    padded x (ix4 n 0 r s) = x (ix4 n 0 (inner r) (inner s)) := by
  by_cases h : s.val < 513
  · pointwise [padded]
    rw [dif_pos h]
    exact columnsLeft_apply x n r ⟨s.val, h⟩
  · have e : inner s = inner 511 := by
      unfold inner
      rw [if_neg (by omega), dif_neg h]
      rfl
    rw [e]
    pointwise [padded]
    rw [dif_neg h]
    exact columnsLeft_apply x n r 511

/-- The three rows or columns of the padded image about row or column `i` are the one before, `i` itself and the one after. -/
theorem inner_near (i : Fin 512) :
    inner ⟨i.val, by omega⟩ = before i ∧ inner ⟨1 + i.val, by omega⟩ = i ∧ inner ⟨2 + i.val, by omega⟩ = after i := by
  unfold inner before after
  refine ⟨?_, ?_, ?_⟩
  · by_cases h : i.val < 1
    · rw [if_pos h, if_pos h]; rfl
    · rw [if_neg h, dif_pos (show i.val < 513 by omega), if_neg h]
  · rw [if_neg (show ¬ 1 + i.val < 1 by omega), dif_pos (show 1 + i.val < 513 by omega)]
    exact Fin.ext (by show 1 + i.val - 1 = i.val; omega)
  · rw [if_neg (show ¬ 2 + i.val < 1 by omega)]
    by_cases h : i.val < 511
    · rw [dif_pos (show 2 + i.val < 513 by omega), dif_pos h]
      exact Fin.ext (by show 2 + i.val - 1 = i.val + 1; omega)
    · rw [dif_neg (show ¬ 2 + i.val < 513 by omega), dif_neg h]

end Cert.Hog

end
-- ==== Proof.Stencil.lean ====
/-
  The two gradients of every image as the reference computes them, each the sum of the nine products of a mask's entries with
  the padded image shifted, and what they are where the masks are Sobel's.
-/
module

public import proofs.«01_k».proof.Proof.Padding

@[expose] public section

set_option maxRecDepth 16384

noncomputable section

namespace Cert.Hog

open Cert.ReferenceIdeal Cert.ReferenceIdeal.Gen Idealize.ShloMosaic Idealize.SL.Sem

/-- The sum of the nine products with the first mask. -/
def stencilX (w : FVec Ideal S2x1x3x3 .f32) (v : FVec Ideal S32x1x514x514 .f32) : FVec Ideal S32x512x512 .f32 :=
  addf (addf (addf (addf (addf (addf (addf (addf (addf (broadcastInDim S32x512x512 ![] bcast_S_S32x512x512 (constant S_ .f32 0x00000000#32))
    (mulf (broadcastInDim S32x512x512 ![] bcast_S_S32x512x512 (shapeCast S_ (extractStridedSlice S1x1x1x1 ![0, 0, 0, 0] w
      slices_S2x1x3x3_S1x1x1x1_0_0_0_0) shapeCasts_S1x1x1x1_S_)) (shapeCast S32x512x512 (extractStridedSlice S32x1x512x512 ![0, 0, 0, 0] v
      slices_S32x1x514x514_S32x1x512x512_0_0_0_0) shapeCasts_S32x1x512x512_S32x512x512)))
    (mulf (broadcastInDim S32x512x512 ![] bcast_S_S32x512x512 (shapeCast S_ (extractStridedSlice S1x1x1x1 ![0, 0, 0, 1] w
      slices_S2x1x3x3_S1x1x1x1_0_0_0_1) shapeCasts_S1x1x1x1_S_)) (shapeCast S32x512x512 (extractStridedSlice S32x1x512x512 ![0, 0, 0, 1] v
      slices_S32x1x514x514_S32x1x512x512_0_0_0_1) shapeCasts_S32x1x512x512_S32x512x512)))
    (mulf (broadcastInDim S32x512x512 ![] bcast_S_S32x512x512 (shapeCast S_ (extractStridedSlice S1x1x1x1 ![0, 0, 0, 2] w
      slices_S2x1x3x3_S1x1x1x1_0_0_0_2) shapeCasts_S1x1x1x1_S_)) (shapeCast S32x512x512 (extractStridedSlice S32x1x512x512 ![0, 0, 0, 2] v
      slices_S32x1x514x514_S32x1x512x512_0_0_0_2) shapeCasts_S32x1x512x512_S32x512x512)))
    (mulf (broadcastInDim S32x512x512 ![] bcast_S_S32x512x512 (shapeCast S_ (extractStridedSlice S1x1x1x1 ![0, 0, 1, 0] w
      slices_S2x1x3x3_S1x1x1x1_0_0_1_0) shapeCasts_S1x1x1x1_S_)) (shapeCast S32x512x512 (extractStridedSlice S32x1x512x512 ![0, 0, 1, 0] v
      slices_S32x1x514x514_S32x1x512x512_0_0_1_0) shapeCasts_S32x1x512x512_S32x512x512)))
    (mulf (broadcastInDim S32x512x512 ![] bcast_S_S32x512x512 (shapeCast S_ (extractStridedSlice S1x1x1x1 ![0, 0, 1, 1] w
      slices_S2x1x3x3_S1x1x1x1_0_0_1_1) shapeCasts_S1x1x1x1_S_)) (shapeCast S32x512x512 (extractStridedSlice S32x1x512x512 ![0, 0, 1, 1] v
      slices_S32x1x514x514_S32x1x512x512_0_0_1_1) shapeCasts_S32x1x512x512_S32x512x512)))
    (mulf (broadcastInDim S32x512x512 ![] bcast_S_S32x512x512 (shapeCast S_ (extractStridedSlice S1x1x1x1 ![0, 0, 1, 2] w
      slices_S2x1x3x3_S1x1x1x1_0_0_1_2) shapeCasts_S1x1x1x1_S_)) (shapeCast S32x512x512 (extractStridedSlice S32x1x512x512 ![0, 0, 1, 2] v
      slices_S32x1x514x514_S32x1x512x512_0_0_1_2) shapeCasts_S32x1x512x512_S32x512x512)))
    (mulf (broadcastInDim S32x512x512 ![] bcast_S_S32x512x512 (shapeCast S_ (extractStridedSlice S1x1x1x1 ![0, 0, 2, 0] w
      slices_S2x1x3x3_S1x1x1x1_0_0_2_0) shapeCasts_S1x1x1x1_S_)) (shapeCast S32x512x512 (extractStridedSlice S32x1x512x512 ![0, 0, 2, 0] v
      slices_S32x1x514x514_S32x1x512x512_0_0_2_0) shapeCasts_S32x1x512x512_S32x512x512)))
    (mulf (broadcastInDim S32x512x512 ![] bcast_S_S32x512x512 (shapeCast S_ (extractStridedSlice S1x1x1x1 ![0, 0, 2, 1] w
      slices_S2x1x3x3_S1x1x1x1_0_0_2_1) shapeCasts_S1x1x1x1_S_)) (shapeCast S32x512x512 (extractStridedSlice S32x1x512x512 ![0, 0, 2, 1] v
      slices_S32x1x514x514_S32x1x512x512_0_0_2_1) shapeCasts_S32x1x512x512_S32x512x512)))
    (mulf (broadcastInDim S32x512x512 ![] bcast_S_S32x512x512 (shapeCast S_ (extractStridedSlice S1x1x1x1 ![0, 0, 2, 2] w
      slices_S2x1x3x3_S1x1x1x1_0_0_2_2) shapeCasts_S1x1x1x1_S_)) (shapeCast S32x512x512 (extractStridedSlice S32x1x512x512 ![0, 0, 2, 2] v
      slices_S32x1x514x514_S32x1x512x512_0_0_2_2) shapeCasts_S32x1x512x512_S32x512x512))

/-- The sum of the nine products with the second mask. -/
def stencilY (w : FVec Ideal S2x1x3x3 .f32) (v : FVec Ideal S32x1x514x514 .f32) : FVec Ideal S32x512x512 .f32 :=
  addf (addf (addf (addf (addf (addf (addf (addf (addf (broadcastInDim S32x512x512 ![] bcast_S_S32x512x512 (constant S_ .f32 0x00000000#32))
    (mulf (broadcastInDim S32x512x512 ![] bcast_S_S32x512x512 (shapeCast S_ (extractStridedSlice S1x1x1x1 ![1, 0, 0, 0] w
      slices_S2x1x3x3_S1x1x1x1_1_0_0_0) shapeCasts_S1x1x1x1_S_)) (shapeCast S32x512x512 (extractStridedSlice S32x1x512x512 ![0, 0, 0, 0] v
      slices_S32x1x514x514_S32x1x512x512_0_0_0_0) shapeCasts_S32x1x512x512_S32x512x512)))
    (mulf (broadcastInDim S32x512x512 ![] bcast_S_S32x512x512 (shapeCast S_ (extractStridedSlice S1x1x1x1 ![1, 0, 0, 1] w
      slices_S2x1x3x3_S1x1x1x1_1_0_0_1) shapeCasts_S1x1x1x1_S_)) (shapeCast S32x512x512 (extractStridedSlice S32x1x512x512 ![0, 0, 0, 1] v
      slices_S32x1x514x514_S32x1x512x512_0_0_0_1) shapeCasts_S32x1x512x512_S32x512x512)))
    (mulf (broadcastInDim S32x512x512 ![] bcast_S_S32x512x512 (shapeCast S_ (extractStridedSlice S1x1x1x1 ![1, 0, 0, 2] w
      slices_S2x1x3x3_S1x1x1x1_1_0_0_2) shapeCasts_S1x1x1x1_S_)) (shapeCast S32x512x512 (extractStridedSlice S32x1x512x512 ![0, 0, 0, 2] v
      slices_S32x1x514x514_S32x1x512x512_0_0_0_2) shapeCasts_S32x1x512x512_S32x512x512)))
    (mulf (broadcastInDim S32x512x512 ![] bcast_S_S32x512x512 (shapeCast S_ (extractStridedSlice S1x1x1x1 ![1, 0, 1, 0] w
      slices_S2x1x3x3_S1x1x1x1_1_0_1_0) shapeCasts_S1x1x1x1_S_)) (shapeCast S32x512x512 (extractStridedSlice S32x1x512x512 ![0, 0, 1, 0] v
      slices_S32x1x514x514_S32x1x512x512_0_0_1_0) shapeCasts_S32x1x512x512_S32x512x512)))
    (mulf (broadcastInDim S32x512x512 ![] bcast_S_S32x512x512 (shapeCast S_ (extractStridedSlice S1x1x1x1 ![1, 0, 1, 1] w
      slices_S2x1x3x3_S1x1x1x1_1_0_1_1) shapeCasts_S1x1x1x1_S_)) (shapeCast S32x512x512 (extractStridedSlice S32x1x512x512 ![0, 0, 1, 1] v
      slices_S32x1x514x514_S32x1x512x512_0_0_1_1) shapeCasts_S32x1x512x512_S32x512x512)))
    (mulf (broadcastInDim S32x512x512 ![] bcast_S_S32x512x512 (shapeCast S_ (extractStridedSlice S1x1x1x1 ![1, 0, 1, 2] w
      slices_S2x1x3x3_S1x1x1x1_1_0_1_2) shapeCasts_S1x1x1x1_S_)) (shapeCast S32x512x512 (extractStridedSlice S32x1x512x512 ![0, 0, 1, 2] v
      slices_S32x1x514x514_S32x1x512x512_0_0_1_2) shapeCasts_S32x1x512x512_S32x512x512)))
    (mulf (broadcastInDim S32x512x512 ![] bcast_S_S32x512x512 (shapeCast S_ (extractStridedSlice S1x1x1x1 ![1, 0, 2, 0] w
      slices_S2x1x3x3_S1x1x1x1_1_0_2_0) shapeCasts_S1x1x1x1_S_)) (shapeCast S32x512x512 (extractStridedSlice S32x1x512x512 ![0, 0, 2, 0] v
      slices_S32x1x514x514_S32x1x512x512_0_0_2_0) shapeCasts_S32x1x512x512_S32x512x512)))
    (mulf (broadcastInDim S32x512x512 ![] bcast_S_S32x512x512 (shapeCast S_ (extractStridedSlice S1x1x1x1 ![1, 0, 2, 1] w
      slices_S2x1x3x3_S1x1x1x1_1_0_2_1) shapeCasts_S1x1x1x1_S_)) (shapeCast S32x512x512 (extractStridedSlice S32x1x512x512 ![0, 0, 2, 1] v
      slices_S32x1x514x514_S32x1x512x512_0_0_2_1) shapeCasts_S32x1x512x512_S32x512x512)))
    (mulf (broadcastInDim S32x512x512 ![] bcast_S_S32x512x512 (shapeCast S_ (extractStridedSlice S1x1x1x1 ![1, 0, 2, 2] w
      slices_S2x1x3x3_S1x1x1x1_1_0_2_2) shapeCasts_S1x1x1x1_S_)) (shapeCast S32x512x512 (extractStridedSlice S32x1x512x512 ![0, 0, 2, 2] v
      slices_S32x1x514x514_S32x1x512x512_0_0_2_2) shapeCasts_S32x1x512x512_S32x512x512))

/-- The two gradients of every image, one after the other. -/
def gradients (x : FVec Ideal S32x1x512x512 .f32) (w : FVec Ideal S2x1x3x3 .f32) : FVec Ideal S32x2x512x512 .f32 :=
  concatenate S32x2x512x512 1
    [⟨S32x1x512x512, broadcastInDim S32x1x512x512 ![0, 2, 3] bcast_S32x512x512_S32x1x512x512_0_2_3 (stencilX w (padded x))⟩,
     ⟨S32x1x512x512, broadcastInDim S32x1x512x512 ![0, 2, 3] bcast_S32x512x512_S32x1x512x512_0_2_3 (stencilY w (padded x))⟩]
    concatenates_S32x1x512x512_S32x1x512x512_S32x2x512x512_d1

/-- Sobel's mask for the gradient along a row. -/
def sobel (a b : Fin 3) : ℝ := ![![1, 0, -1], ![2, 0, -2], ![1, 0, -1]] a b

/-- The entries of Sobel's mask. -/
theorem sobel_entries : sobel 0 0 = 1 ∧ sobel 0 1 = 0 ∧ sobel 0 2 = -1 ∧ sobel 1 0 = 2 ∧ sobel 1 1 = 0 ∧ sobel 1 2 = -2 ∧ sobel 2 0 = 1 ∧ sobel 2 1 = 0 ∧ sobel 2 2 = -1 :=
  ⟨rfl, rfl, rfl, rfl, rfl, rfl, rfl, rfl, rfl⟩

/-- The masks are Sobel's: the second one is the first one with rows and columns exchanged. -/
def IsSobel (w : FVec Ideal S2x1x3x3 .f32) : Prop :=
  ∀ a b : Fin 3, w (ix4 0 0 a b) = ((sobel a b : ℝ) : EReal) ∧ w (ix4 1 0 a b) = ((sobel b a : ℝ) : EReal)

/-- The argument holds the real images `X`. -/
def HoldsAll (x : FVec Ideal S32x1x512x512 .f32) (X : Fin 32 → Image) : Prop :=
  ∀ n i j, x (ix4 n 0 i j) = ((X n i j : ℝ) : EReal)

/-- The first gradient. -/
theorem stencilX_apply {x : FVec Ideal S32x1x512x512 .f32} {w : FVec Ideal S2x1x3x3 .f32} {X : Fin 32 → Image}
    (hx : HoldsAll x X) (hw : IsSobel w) (n : Fin 32) (i j : Fin 512) :
    stencilX w (padded x) (ix3 n i j) = ((gradX (X n) i j : ℝ) : EReal) := by
  obtain ⟨s00, s01, s02, s10, s11, s12, s20, s21, s22⟩ := sobel_entries
  obtain ⟨i0, i1, i2⟩ := inner_near i
  obtain ⟨j0, j1, j2⟩ := inner_near j
  pointwise [stencilX]
  simp only [padded_apply, i0, i1, i2, j0, j1, j2, hx n, (hw _ _).1, ← EReal.coe_mul, ← EReal.coe_add]
  rw [EReal.coe_eq_coe_iff, s00, s01, s02, s10, s11, s12, s20, s21, s22]
  unfold gradX
  ring

/-- The second gradient. -/
theorem stencilY_apply {x : FVec Ideal S32x1x512x512 .f32} {w : FVec Ideal S2x1x3x3 .f32} {X : Fin 32 → Image}
    (hx : HoldsAll x X) (hw : IsSobel w) (n : Fin 32) (i j : Fin 512) :
    stencilY w (padded x) (ix3 n i j) = ((gradY (X n) i j : ℝ) : EReal) := by
  obtain ⟨s00, s01, s02, s10, s11, s12, s20, s21, s22⟩ := sobel_entries
  obtain ⟨i0, i1, i2⟩ := inner_near i
  obtain ⟨j0, j1, j2⟩ := inner_near j
  pointwise [stencilY]
  simp only [padded_apply, i0, i1, i2, j0, j1, j2, hx n, (hw _ _).2, ← EReal.coe_mul, ← EReal.coe_add]
  rw [EReal.coe_eq_coe_iff, s00, s01, s02, s10, s11, s12, s20, s21, s22]
  unfold gradY
  ring

/-- The first gradient in the pair. -/
theorem gradients_zero (x : FVec Ideal S32x1x512x512 .f32) (w : FVec Ideal S2x1x3x3 .f32) (n : Fin 32) (i j : Fin 512) :
    gradients x w (ix4 n 0 i j) = stencilX w (padded x) (ix3 n i j) := by
  pointwise [gradients]

/-- The second gradient in the pair. -/
theorem gradients_one (x : FVec Ideal S32x1x512x512 .f32) (w : FVec Ideal S2x1x3x3 .f32) (n : Fin 32) (i j : Fin 512) :
    gradients x w (ix4 n 1 i j) = stencilY w (padded x) (ix3 n i j) := by
  pointwise [gradients]

end Cert.Hog

end
-- ==== Proof.Direction.lean ====
/-
  The bin of every pixel as the reference computes it: the direction by the two-argument arc tangent, divided by the largest
  angle, times nine, rounded down, and its remainder by nine.
-/
module

public import proofs.«01_k».proof.Proof.Stencil

@[expose] public section

set_option maxRecDepth 16384

noncomputable section

namespace Cert.Hog

open Cert.ReferenceIdeal Cert.ReferenceIdeal.Gen Idealize.ShloMosaic Idealize.SL.Sem

/-- The first of the two gradients. -/
def firstOf (g : FVec Ideal S32x2x512x512 .f32) : FVec Ideal S32x512x512 .f32 :=
  shapeCast S32x512x512 (extractStridedSlice S32x1x512x512 ![0, 0, 0, 0] g slices_S32x2x512x512_S32x1x512x512_0_0_0_0)
    shapeCasts_S32x1x512x512_S32x512x512

/-- The second of the two gradients. -/
def secondOf (g : FVec Ideal S32x2x512x512 .f32) : FVec Ideal S32x512x512 .f32 :=
  shapeCast S32x512x512 (extractStridedSlice S32x1x512x512 ![0, 1, 0, 0] g slices_S32x2x512x512_S32x1x512x512_0_1_0_0)
    shapeCasts_S32x1x512x512_S32x512x512

/-- The number of the part of the half turn, a ninth of it, that the direction lies in, as a word. -/
def partWord (g : FVec Ideal S32x2x512x512 .f32) : IVec S32x512x512 32 :=
  fptosi 32 (Host.floor (mulf (Host.divf (Host.atan2 (firstOf g) (secondOf g))
    (broadcastInDim S32x512x512 ![] bcast_S_S32x512x512 (Host.acos (constant S_ .f32 0xBF800000#32))))
    (broadcastInDim S32x512x512 ![] bcast_S_S32x512x512 (constant S_ .f32 0x41100000#32))))

/-- The divisor nine, with one in place of zero. -/
def divisor : IVec S_ 32 :=
  select (cmpi .eq (id (constantI S_ 32 9#32)) (constantI S_ 32 0#32)) (constantI S_ 32 1#32) (id (constantI S_ 32 9#32))

/-- The remainder with the dividend's sign. -/
def remainder (u : IVec S32x512x512 32) : IVec S32x512x512 32 :=
  Host.remsi u (broadcastInDim S32x512x512 ![] bcast_S_S32x512x512 divisor)

/-- The remainder with the divisor's sign, from the one with the dividend's sign. -/
def adjusted (r : IVec S32x512x512 32) : IVec S32x512x512 32 :=
  select (andi (cmpi .ne (cmpi .slt r (broadcastInDim S32x512x512 ![] bcast_S_S32x512x512 (constantI S_ 32 0#32)))
      (broadcastInDim S32x512x512 ![] bcast_S_S32x512x512 (cmpi .slt divisor (constantI S_ 32 0#32))))
      (cmpi .ne r (broadcastInDim S32x512x512 ![] bcast_S_S32x512x512 (constantI S_ 32 0#32))))
    (addi r (broadcastInDim S32x512x512 ![] bcast_S_S32x512x512 divisor)) r

/-- The first gradient at a pixel. -/
theorem firstOf_apply (g : FVec Ideal S32x2x512x512 .f32) (n : Fin 32) (i j : Fin 512) :
    firstOf g (ix3 n i j) = g (ix4 n 0 i j) := by
  pointwise [firstOf]

/-- The second gradient at a pixel. -/
theorem secondOf_apply (g : FVec Ideal S32x2x512x512 .f32) (n : Fin 32) (i j : Fin 512) :
    secondOf g (ix3 n i j) = g (ix4 n 1 i j) := by
  pointwise [secondOf]

/-- The part's number at a pixel. -/
theorem partWord_apply {g : FVec Ideal S32x2x512x512 .f32} {n : Fin 32} {i j : Fin 512} {gx gy : ℝ}
    (h0 : g (ix4 n 0 i j) = (gx : EReal)) (h1 : g (ix4 n 1 i j) = (gy : EReal)) :
    partWord g (ix3 n i j) = BitVec.ofInt 32 (part gx gy) := by
  pointwise [partWord]
  rw [firstOf_apply, secondOf_apply, h0, h1]
  have ha : Ideal.atan2 (gx : EReal) (gy : EReal) = ((angle gx gy : ℝ) : EReal) := rfl
  have hr := part_range gx gy
  rw [ha, word_neg_one, word_nine, Ideal.acos_coe, if_pos (by norm_num), Real.arccos_neg_one, div_coe_coe Real.pi_ne_zero,
    ← EReal.coe_mul]
  show Ideal.fptosi 32 ((((⌊angle gx gy / Real.pi * 9⌋ : ℤ) : ℝ)) : EReal) = BitVec.ofInt 32 (part gx gy)
  unfold Ideal.fptosi
  rw [Ideal.toIntClamped_coe]
  have e : (if 0 ≤ ((part gx gy : ℤ) : ℝ) then ⌊((part gx gy : ℤ) : ℝ)⌋ else ⌈((part gx gy : ℤ) : ℝ)⌉) = part gx gy := by
    split <;> simp
  show BitVec.ofInt 32 (max _ (min _ (if 0 ≤ ((part gx gy : ℤ) : ℝ) then ⌊((part gx gy : ℤ) : ℝ)⌋ else ⌈((part gx gy : ℤ) : ℝ)⌉))) = _
  rw [e, min_eq_right, max_eq_right]
  all_goals norm_num
  all_goals omega

/-- The remainder of a part's number at a pixel. -/
theorem adjusted_apply {u : IVec S32x512x512 32} {n : Fin 32} {i j : Fin 512} {k : ℤ} (hk : -9 ≤ k ∧ k ≤ 9)
    (hu : u (ix3 n i j) = BitVec.ofInt 32 k) :
    adjusted (remainder u) (ix3 n i j) = BitVec.ofInt 32 (k % 9) := by
  pointwise [adjusted, remainder, divisor]
  rw [hu]
  obtain ⟨h1, h2⟩ := hk
  interval_cases k <;> decide +kernel

end Cert.Hog

end
-- ==== Proof.Position.lean ====
/-
  The precondition, taken apart: an argument that meets it holds finite images in general position, and its weights are
  Sobel's.
-/
module

public import proofs.«01_k».proof.Proof.Direction
public import proofs.«01_k».proof.Proof.Gen.Pre_general_position
public import Idealize.ShloMosaic.Lib.ReduceAll

@[expose] public section

set_option maxRecDepth 16384

noncomputable section

namespace Cert.Hog

open Cert.ReferenceIdeal Cert.ReferenceIdeal.Gen Idealize.ShloMosaic Idealize.SL.Sem
open Cert.Pre_general_position (S3x3 S1x3x3 S2x3x3 lit0)

/-- The first of the two masks that the precondition compares the weights with, as a table. -/
def table : FVec Ideal S3x3 .f32 := fun i => FloatOps.ofBits .f32 (lit0 (S3x3.rowMajor i))

/-- The two masks. -/
def weights : FVec Ideal S2x1x3x3 .f32 :=
  broadcastInDim S2x1x3x3 ![0, 2, 3] Cert.Pre_general_position.Gen.bcast_S2x3x3_S2x1x3x3_0_2_3
    (concatenate S2x3x3 0
      [⟨S1x3x3, broadcastInDim S1x3x3 ![1, 2] Cert.Pre_general_position.Gen.bcast_S3x3_S1x3x3_1_2 table⟩,
       ⟨S1x3x3, broadcastInDim S1x3x3 ![1, 2] Cert.Pre_general_position.Gen.bcast_S3x3_S1x3x3_1_2
         (transpose S3x3 [1, 0] table Cert.Pre_general_position.Gen.transposes_S3x3_S3x3_1_0)⟩]
      Cert.Pre_general_position.Gen.concatenates_S1x3x3_S1x3x3_S2x3x3_d0)

/-- Every entry of the images is below infinity in absolute value. -/
def allFinite (x : FVec Ideal S32x1x512x512 .f32) : IVec S_ 1 :=
  Host.reduce IntOp.andi (cmpf .olt (Host.absf x)
      (broadcastInDim S32x1x512x512 ![] Cert.Pre_general_position.Gen.bcast_S_S32x1x512x512 (constant S_ .f32 0x7F800000#32)))
    (constantI S_ 1 1#1) Cert.Pre_general_position.Gen.reducesTo_S32x1x512x512_S_d0_1_2_3 h_S_

/-- Every weight is its entry in the masks. -/
def allWeights (w : FVec Ideal S2x1x3x3 .f32) : IVec S_ 1 :=
  Host.reduce IntOp.andi (cmpf .oeq w weights) (constantI S_ 1 1#1)
    Cert.Pre_general_position.Gen.reducesTo_S2x1x3x3_S_d0_1_2_3 h_S_

/-- The direction of an edge, whose number is held in the word `k`. -/
def turn (k : BitVec 32) : FVec Ideal S_ .f32 :=
  Host.divf (mulf (Host.acos (constant S_ .f32 0xBF800000#32)) (constant S_ .f32 k)) (constant S_ .f32 0x41100000#32)

/-- Where the gradient is clear of an edge, or its first part is zero. -/
def clearOf (g : FVec Ideal S32x2x512x512 .f32) (k : BitVec 32) : IVec S32x512x512 1 :=
  ori (cmpf .oeq (firstOf g) (broadcastInDim S32x512x512 ![] bcast_S_S32x512x512 (constant S_ .f32 0x00000000#32)))
    (cmpf .ogt
      (Host.absf (subf (mulf (secondOf g) (broadcastInDim S32x512x512 ![] bcast_S_S32x512x512 (Host.sin (turn k))))
        (mulf (firstOf g) (broadcastInDim S32x512x512 ![] bcast_S_S32x512x512 (Host.cos (turn k))))))
      (mulf (broadcastInDim S32x512x512 ![] bcast_S_S32x512x512 (constant S_ .f32 0x33800000#32))
        (Host.absf (mulf (firstOf g) (broadcastInDim S32x512x512 ![] bcast_S_S32x512x512 (Host.cos (turn k)))))))

/-- It is so at every pixel. -/
def allClear (g : FVec Ideal S32x2x512x512 .f32) (k : BitVec 32) : IVec S_ 1 :=
  Host.reduce IntOp.andi (clearOf g k) (constantI S_ 1 1#1) Cert.Pre_general_position.Gen.reducesTo_S32x512x512_S_d0_1_2 h_S_

/-- The precondition is the conjunction of eight statements. -/
theorem precondition_eq (x : FVec Ideal S32x1x512x512 .f32) (w : FVec Ideal S2x1x3x3 .f32) :
    Cert.Pre_general_position.fn (F := Ideal) x w =
      andi (andi (andi (andi (andi (andi (andi (allFinite x) (allWeights w)) (allClear (gradients x w) 0x3F800000#32))
        (allClear (gradients x w) 0x40000000#32)) (allClear (gradients x w) 0x40800000#32))
        (allClear (gradients x w) 0x40A00000#32)) (allClear (gradients x w) 0x40E00000#32))
        (allClear (gradients x w) 0x41000000#32) := rfl

/-- The direction of an edge. -/
theorem turn_apply {k : BitVec 32} {e : ℤ} (hk : Ideal.ofBits .f32 k = ((e : ℝ) : EReal)) (z : S_.Idx) :
    turn k z = ((e * Real.pi / 9 : ℝ) : EReal) := by
  pointwise [turn]
  rw [hk, word_neg_one, word_nine, Ideal.acos_coe, Real.arccos_neg_one, if_pos ⟨le_rfl, by norm_num⟩, ← EReal.coe_mul,
    div_coe_coe (by norm_num), mul_comm]

/-- The absolute value of a real number, as the host takes it. -/
theorem absf_coe (a : ℝ) : FloatOps.absf (F := Ideal) (φ := .f32) (a : EReal) = ((|a| : ℝ) : EReal) := by
  rw [Ideal.absf_def, ← EReal.coe_neg, ← EReal.coe_strictMono.monotone.map_max]
  rfl

/-- A decided statement that is one. -/
theorem of_ofBool {p : Prop} [Decidable p] (h : BitVec.ofBool (decide p) = 1#1) : p := by
  by_cases hp : p
  · exact hp
  · simp [hp] at h

/-- A disjunction of two decided statements that is one. -/
theorem or_of_ori {p q : Prop} [Decidable p] [Decidable q]
    (h : IntOp.ori (BitVec.ofBool (decide p)) (BitVec.ofBool (decide q)) = 1#1) : p ∨ q := by
  by_cases hp : p
  · exact .inl hp
  · by_cases hq : q
    · exact .inr hq
    · simp [hp, hq, IntOp.ori] at h

/-- What a gradient clear of an edge satisfies. -/
theorem clearOf_apply {g : FVec Ideal S32x2x512x512 .f32} {n : Fin 32} {i j : Fin 512} {gx gy : ℝ}
    (h0 : g (ix4 n 0 i j) = (gx : EReal)) (h1 : g (ix4 n 1 i j) = (gy : EReal))
    {k : BitVec 32} {e : ℤ} (hk : Ideal.ofBits .f32 k = ((e : ℝ) : EReal)) (h : clearOf g k (ix3 n i j) = 1#1) :
    gx = 0 ∨ Clear gx gy e := by
  revert h
  have f0 := (firstOf_apply g n i j).trans h0
  have f1 := (secondOf_apply g n i j).trans h1
  have ht := turn_apply hk
  pointwise [clearOf]
  rw [f0, f1, ht, word_tolerance]
  intro h
  refine (or_of_ori h).imp (fun h => EReal.coe_eq_zero.mp h) fun h => ?_
  have hc : Ideal.cos ((e * Real.pi / 9 : ℝ) : EReal) = ((Real.cos (e * Real.pi / 9) : ℝ) : EReal) := rfl
  have hs : Ideal.sin ((e * Real.pi / 9 : ℝ) : EReal) = ((Real.sin (e * Real.pi / 9) : ℝ) : EReal) := rfl
  rw [hc, hs, ← EReal.coe_mul, ← EReal.coe_mul, ← EReal.coe_sub, absf_coe, absf_coe, ← EReal.coe_mul] at h
  exact EReal.coe_lt_coe_iff.mp h

/-- The entries of the table. -/
theorem table_apply (a b : Fin 3) : table (ix2 a b) = ((sobel a b : ℝ) : EReal) := by
  fin_cases a <;> fin_cases b <;> first
    | exact Ideal.ofBits_one_f32
    | exact Ideal.ofBits_zero_f32
    | exact word_neg_one
    | exact word_two
    | exact word_neg_two

/-- The entries of the masks. -/
theorem weights_apply (a b : Fin 3) :
    weights (ix4 0 0 a b) = ((sobel a b : ℝ) : EReal) ∧ weights (ix4 1 0 a b) = ((sobel b a : ℝ) : EReal) := by
  constructor
  · pointwise [weights]
    exact table_apply a b
  · pointwise [weights]
    exact table_apply b a

/-- A scalar has one entry. -/
instance : Subsingleton S_.Idx := ⟨fun _ _ => funext fun a => a.elim0⟩

/-- Weights that are the masks everywhere are Sobel's. -/
theorem isSobel_of_allWeights {w : FVec Ideal S2x1x3x3 .f32} {z : S_.Idx} (h : allWeights w z = 1#1) : IsSobel w := by
  have e (y : S2x1x3x3.Idx) : w y = weights y := by
    have := Host.reduce_andi_all _ _ _ _ z h y
    revert this
    pointwise
    exact of_ofBool
  exact fun a b => ⟨(e _).trans (weights_apply a b).1, (e _).trans (weights_apply a b).2⟩

/-- Images that are below infinity everywhere hold real numbers. -/
theorem holdsAll_of_allFinite {x : FVec Ideal S32x1x512x512 .f32} {z : S_.Idx} (h : allFinite x z = 1#1) :
    HoldsAll x fun n i j => (x (ix4 n 0 i j)).toReal := by
  intro n i j
  have := Host.reduce_andi_all _ _ _ _ z h (ix4 n 0 i j)
  revert this
  pointwise
  intro h
  have h := of_ofBool h
  rw [word_infinity, Ideal.absf_def] at h
  obtain ⟨h1, h2⟩ := max_lt_iff.mp h
  exact (EReal.coe_toReal h1.ne fun e => by simp [e] at h2).symm

/-- What the precondition grants. -/
theorem of_precondition {x : FVec Ideal S32x1x512x512 .f32} {w : FVec Ideal S2x1x3x3 .f32}
    (h : Cert.Pre_general_position.fn (F := Ideal) x w = fun _ => 1#1) :
    ∃ X : Fin 32 → Image, HoldsAll x X ∧ IsSobel w ∧ ∀ n, InGeneralPosition (X n) := by
  rw [precondition_eq] at h
  have split {a b : IVec S_ 1} (h : andi a b = fun _ => 1#1) : (a = fun _ => 1#1) ∧ (b = fun _ => 1#1) := by
    have one (u v : BitVec 1) : u &&& v = 1#1 → u = 1#1 ∧ v = 1#1 := by revert u v; decide
    exact ⟨funext fun z => (one _ _ (congrFun h z)).1, funext fun z => (one _ _ (congrFun h z)).2⟩
  obtain ⟨h, h8⟩ := split h
  obtain ⟨h, h7⟩ := split h
  obtain ⟨h, h5⟩ := split h
  obtain ⟨h, h4⟩ := split h
  obtain ⟨h, h2⟩ := split h
  obtain ⟨h, h1⟩ := split h
  obtain ⟨hx, hw⟩ := split h
  let z : S_.Idx := fun a => a.elim0
  have hX := holdsAll_of_allFinite (congrFun hx z)
  have hW := isSobel_of_allWeights (congrFun hw z)
  refine ⟨_, hX, hW, fun n i j => ?_⟩
  have g0 := (gradients_zero x w n i j).trans (stencilX_apply hX hW n i j)
  have g1 := (gradients_one x w n i j).trans (stencilY_apply hX hW n i j)
  have one : Ideal.ofBits .f32 0x3F800000#32 = (((1 : ℤ) : ℝ) : EReal) := by simpa using Ideal.ofBits_one_f32
  have two : Ideal.ofBits .f32 0x40000000#32 = (((2 : ℤ) : ℝ) : EReal) := by simpa using word_two
  have four : Ideal.ofBits .f32 0x40800000#32 = (((4 : ℤ) : ℝ) : EReal) := by simpa using word_four
  have five : Ideal.ofBits .f32 0x40A00000#32 = (((5 : ℤ) : ℝ) : EReal) := by simpa using word_five
  have seven : Ideal.ofBits .f32 0x40E00000#32 = (((7 : ℤ) : ℝ) : EReal) := by simpa using word_seven
  have eight : Ideal.ofBits .f32 0x41000000#32 = (((8 : ℤ) : ℝ) : EReal) := by simpa using word_eight
  have clear {k : BitVec 32} {e : ℤ} (hk : Ideal.ofBits .f32 k = ((e : ℝ) : EReal))
      (h : allClear (gradients x w) k = fun _ => 1#1) :=
    clearOf_apply g0 g1 hk (Host.reduce_andi_all _ _ _ _ z (congrFun h z) (ix3 n i j))
  rcases clear one h1 with c | c1
  · exact .inl c
  rcases clear two h2 with c | c2
  · exact .inl c
  rcases clear four h4 with c | c4
  · exact .inl c
  rcases clear five h5 with c | c5
  · exact .inl c
  rcases clear seven h7 with c | c7
  · exact .inl c
  rcases clear eight h8 with c | c8
  · exact .inl c
  exact .inr ⟨c1, c2, c4, c5, c7, c8⟩

end Cert.Hog

end
-- ==== Proof.Reference.lean ====
/-
  The reference's histograms and its result, as functions of the two gradients of every image, read at an entry.
-/
module

public import proofs.«01_k».proof.Proof.Direction

@[expose] public section

set_option maxRecDepth 16384

noncomputable section

namespace Cert.Hog

open Cert.ReferenceIdeal Cert.ReferenceIdeal.Gen Idealize.ShloMosaic Idealize.SL.Sem

/-- The length of every pixel's gradient. -/
def lengths (g : FVec Ideal S32x2x512x512 .f32) : FVec Ideal S32x512x512 .f32 :=
  Host.sqrt (Host.reduceAdd (mulf g g) (constant S_ .f32 0x00000000#32) reducesTo_S32x2x512x512_S32x512x512_d1 h_S_)

/-- For every bin one where the pixel's bin is that one and zero elsewhere, times the length. -/
def shares (b : IVec S32x512x512 32) (l : FVec Ideal S32x512x512 .f32) : FVec Ideal S32x9x512x512 .f32 :=
  mulf (uitofp .f32 (cmpi .eq
      (broadcastInDim S32x9x512x512 ![0, 1, 2, 3] bcast_S32x1x512x512_S32x9x512x512_0_1_2_3
        (broadcastInDim S32x1x512x512 ![0, 2, 3] bcast_S32x512x512_S32x1x512x512_0_2_3 b))
      (broadcastInDim S32x9x512x512 ![0, 1, 2, 3] bcast_S1x9x1x1_S32x9x512x512_0_1_2_3
        (broadcastInDim S1x9x1x1 ![1] bcast_S9_S1x9x1x1_1 (iotaInDim S9 32 0)))))
    (broadcastInDim S32x9x512x512 ![0, 1, 2, 3] bcast_S32x1x512x512_S32x9x512x512_0_1_2_3
      (broadcastInDim S32x1x512x512 ![0, 2, 3] bcast_S32x512x512_S32x1x512x512_0_2_3 l))

/-- The means over the cells of eight by eight pixels. -/
def means (s : FVec Ideal S32x9x512x512 .f32) : FVec Ideal S32x9x64x64 .f32 :=
  Host.divf (Host.reduceAdd (shapeCast S32x9x64x8x64x8 s shapeCasts_S32x9x512x512_S32x9x64x8x64x8)
      (constant S_ .f32 0x00000000#32) reducesTo_S32x9x64x8x64x8_S32x9x64x64_d3_5 h_S_)
    (broadcastInDim S32x9x64x64 ![] bcast_S_S32x9x64x64 (constant S_ .f32 0x42800000#32))

/-- The length of a gradient at a pixel. -/
theorem lengths_apply {g : FVec Ideal S32x2x512x512 .f32} {n : Fin 32} {i j : Fin 512} {gx gy : ℝ}
    (h0 : g (ix4 n 0 i j) = (gx : EReal)) (h1 : g (ix4 n 1 i j) = (gy : EReal)) :
    lengths g (ix3 n i j) = ((magnitude gx gy : ℝ) : EReal) := by
  pointwise [lengths]
  rw [Fin.sum_univ_two, h0, h1, ← EReal.coe_mul, ← EReal.coe_mul, ← EReal.coe_add, Ideal.sqrt_coe,
    if_neg (not_lt.mpr (add_nonneg (mul_self_nonneg _) (mul_self_nonneg _)))]
  rfl

/-- The share of a bin at a pixel. -/
theorem shares_apply {b : IVec S32x512x512 32} {l : FVec Ideal S32x512x512 .f32} {n : Fin 32} {i j : Fin 512} {gx gy : ℝ}
    (hb : b (ix3 n i j) = BitVec.ofInt 32 (bin gx gy)) (hl : l (ix3 n i j) = ((magnitude gx gy : ℝ) : EReal)) (k : Fin 9) :
    shares b l (ix4 n k i j) = ((share gx gy k : ℝ) : EReal) := by
  pointwise [shares]
  rw [hb, hl]
  obtain ⟨h0, h9⟩ := bin_range gx gy
  by_cases h : bin gx gy = (k : ℤ)
  · have hk : (BitVec.ofInt 32 (bin gx gy) == BitVec.ofNat 32 (k : ℕ)) = true := by
      rw [h, beq_iff_eq]; simp
    simp [IntOp.cmpi, hk, FloatOps.uitofp, share, h]
  · have hk : (BitVec.ofInt 32 (bin gx gy) == BitVec.ofNat 32 (k : ℕ)) = false := by
      refine beq_eq_false_iff_ne.mpr fun e => h ?_
      have hk := k.isLt
      generalize bin gx gy = z at *
      have := congrArg BitVec.toInt e
      rw [BitVec.toInt_ofInt, BitVec.toInt_ofNat', Int.bmod_def, Int.bmod_def] at this
      omega
    simp [IntOp.cmpi, hk, FloatOps.uitofp, share, h]

/-- The positions that a sum over the fourth and the sixth of six coordinates adds up at an entry of its result. -/
theorem block_fiber (n : Fin 32) (b : Fin 9) (p q : Fin 64) (i : S32x9x64x8x64x8.Idx) :
    reducesTo_S32x9x64x8x64x8_S32x9x64x64_d3_5.drop i = ix4 n b p q ↔
      ∃ e : Fin 8 × Fin 8, (ix6 n b p e.1 q e.2 : S32x9x64x8x64x8.Idx) = i := by
  constructor
  · intro h
    have coordinate (c : Fin 4) := congrArg Fin.val (congrFun h c)
    refine ⟨(i 3, i 5), funext fun a => Fin.ext ?_⟩
    fin_cases a
    · exact (coordinate 0).symm
    · exact (coordinate 1).symm
    · exact (coordinate 2).symm
    · rfl
    · exact (coordinate 3).symm
    · rfl
  · rintro ⟨e, rfl⟩
    refine funext fun a => Fin.ext ?_
    fin_cases a <;> rfl

/-- A sum over the fourth and the sixth of six coordinates, at an entry of its result. -/
theorem block_sum (v : S32x9x64x8x64x8.Idx → EReal) (z : EReal) (n : Fin 32) (b : Fin 9) (p q : Fin 64) :
    Ideal.hostReduceAdd reducesTo_S32x9x64x8x64x8_S32x9x64x64_d3_5 v z (ix4 n b p q) =
      z + ∑ k : Fin 8, ∑ l : Fin 8, v (ix6 n b p k q l) := by
  rw [← Fintype.sum_prod_type' (f := fun k l => v (ix6 n b p k q l))]
  refine congrArg (z + ·) (Finset.sum_filter_eq_sum_of_fiber _
    (fun e : Fin 8 × Fin 8 => (ix6 n b p e.1 q e.2 : S32x9x64x8x64x8.Idx)) (fun e f h => ?_) (block_fiber n b p q) v)
  exact Prod.ext (congrFun h 3) (congrFun h 5)

/-- The mean of a cell. -/
theorem means_apply {s : FVec Ideal S32x9x512x512 .f32} {A : Image} {n : Fin 32} {b : Fin 9}
    (hs : ∀ i j, s (ix4 n b i j) = ((share (gradX A i j) (gradY A i j) b : ℝ) : EReal)) (p q : Fin 64) :
    means s (ix4 n b p q) = ((cell A b p q : ℝ) : EReal) := by
  pointwise [means]
  rw [block_sum]
  pointwise
  have hsum : (∑ k : Fin 8, ∑ l : Fin 8, s (ix4 n b (pixel p k) (pixel q l))) = ((total A b p q : ℝ) : EReal) := by
    rw [total, coe_total]
    refine Finset.sum_congr rfl fun k _ => ?_
    rw [coe_total]
    exact Finset.sum_congr rfl fun l _ => hs _ _
  exact (congrArg₂ Ideal.div hsum word_sixty_four).trans (div_coe_coe (by norm_num))

/-- The squares of a cell's nine means added up, the root of the sum, not below a tiny number. -/
def norms (h : FVec Ideal S32x9x64x64 .f32) : FVec Ideal S32x1x64x64 .f32 :=
  maximumf (Host.sqrt (broadcastInDim S32x1x64x64 ![0, 2, 3] bcast_S32x64x64_S32x1x64x64_0_2_3
      (Host.reduceAdd (mulf h h) (constant S_ .f32 0x00000000#32) reducesTo_S32x9x64x64_S32x64x64_d1 h_S_)))
    (broadcastInDim S32x1x64x64 ![] bcast_S_S32x1x64x64 (constant S_ .f32 0x2B8CBCCC#32))

/-- The nine means of every cell divided by their norm. -/
def normalised (h : FVec Ideal S32x9x64x64 .f32) : FVec Ideal S32x9x64x64 .f32 :=
  Host.divf h (broadcastInDim S32x9x64x64 ![0, 1, 2, 3] bcast_S32x1x64x64_S32x9x64x64_0_1_2_3 (norms h))

/-- The norm of a cell. -/
theorem norms_apply {h : FVec Ideal S32x9x64x64 .f32} {A : Image} {n : Fin 32} {p q : Fin 64}
    (hh : ∀ b : Fin 9, h (ix4 n b p q) = ((cell A b p q : ℝ) : EReal)) :
    norms h (ix4 n 0 p q) = ((norm A p q : ℝ) : EReal) := by
  pointwise [norms]
  have hsum : (∑ b : Fin 9, h (ix4 n b p q) * h (ix4 n b p q)) =
      ((∑ b : Fin 9, cell A b p q * cell A b p q : ℝ) : EReal) := by
    rw [coe_total]
    exact Finset.sum_congr rfl fun b _ => by rw [hh b, EReal.coe_mul]
  rw [hsum, word_tiny, Ideal.sqrt_coe, if_neg (not_lt.mpr (Finset.sum_nonneg fun b _ => mul_self_nonneg _)),
    ← EReal.coe_strictMono.monotone.map_max]
  rfl

/-- A normalised mean. -/
theorem normalised_apply {h : FVec Ideal S32x9x64x64 .f32} {A : Image} {n : Fin 32} {p q : Fin 64}
    (hh : ∀ b : Fin 9, h (ix4 n b p q) = ((cell A b p q : ℝ) : EReal)) (b : Fin 9) :
    normalised h (ix4 n b p q) = ((hog A b p q : ℝ) : EReal) := by
  have hn := norms_apply hh
  pointwise [normalised]
  rw [hh, hn]
  exact div_coe_coe (norm_pos A p q).ne'

/-- The reference's result, from the images and from the weights. -/
def result (x : FVec Ideal S32x1x512x512 .f32) (w : FVec Ideal S2x1x3x3 .f32) : FVec Ideal S32x9x64x64 .f32 :=
  normalised (means (shares (adjusted (remainder (partWord (gradients x w)))) (lengths (gradients x w))))

/-- The reference's result at finite images and the Sobel weights. -/
theorem result_eq {x : FVec Ideal S32x1x512x512 .f32} {w : FVec Ideal S2x1x3x3 .f32} {X : Fin 32 → Image}
    (hx : HoldsAll x X) (hw : IsSobel w) (y : S32x9x64x64.Idx) :
    result x w y = ((hog (X (y 0)) (y 1) (y 2) (y 3) : ℝ) : EReal) := by
  have h0 (n i j) : gradients x w (ix4 n 0 i j) = ((gradX (X n) i j : ℝ) : EReal) :=
    (gradients_zero x w n i j).trans (stencilX_apply hx hw n i j)
  have h1 (n i j) : gradients x w (ix4 n 1 i j) = ((gradY (X n) i j : ℝ) : EReal) :=
    (gradients_one x w n i j).trans (stencilY_apply hx hw n i j)
  have e : y = ix4 (y 0) (y 1) (y 2) (y 3) := by funext a; fin_cases a <;> rfl
  rw [e]
  refine normalised_apply (fun b => means_apply (fun i j => shares_apply ?_ ?_ b) _ _) _
  · exact adjusted_apply (part_range _ _) (partWord_apply (h0 _ i j) (h1 _ i j))
  · exact lengths_apply (h0 _ i j) (h1 _ i j)

end Cert.Hog

end
-- ==== Proof.Claims.lean ====
/-
  The claims about the two programs: each terminates and leaves its arguments and semaphores as they were, the names of the
  kernel's constants are admissible, and over the extended reals the kernel's result is the reference's.
-/
module

public import proofs.«01_k».proof.Defs
public import proofs.«01_k».proof.Proof.KernelArray
public import proofs.«01_k».proof.Proof.Position
public import proofs.«01_k».proof.Proof.Reference
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

set_option maxRecDepth 16384

noncomputable section

namespace Cert.Hog

open Idealize.ShloMosaic Idealize.ShloMosaic.StableHlo Idealize.SL.Sem

/-- The kernel terminates, and its arguments and semaphores end as they began. -/
theorem frame_p : Cert.quiescent_Kernel := fun m ρ _ => Cert.Kernel.Gen.frame m ρ

/-- So does the kernel over the extended reals. -/
theorem frame_pi : Cert.quiescent_KernelIdeal := fun m ρ _ => Cert.KernelIdeal.Gen.frame m ρ

/-- In particular under the precondition. -/
theorem frame_pi_pre : Cert.quiescent_KernelIdeal_pre_general_position := fun m ρ _ => Cert.KernelIdeal.Gen.frame m ρ

/-- So does the reference over the extended reals. -/
theorem frame_ri : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- In particular under the precondition. -/
theorem frame_ri_pre : Cert.quiescent_ReferenceIdeal_pre_general_position := fun m ρ _ => frame_ri m ρ trivial

/-- The two named constants of the kernel are read as the numbers they name. -/
theorem preserves : Cert.preserves_Kernel_KernelIdeal :=
  ⟨IdealRules.named_const.statement Cert.KernelIdeal.κ "cot60" .f32 0x3F13CD3A#32 (((Real.sqrt 3)⁻¹ : ℝ) : EReal) rfl,
    IdealRules.named_const.statement Cert.KernelIdeal.κ "cot120" .f32 0xBF13CD3A#32 ((-((Real.sqrt 3)⁻¹) : ℝ) : EReal) rfl⟩

open Cert.ReferenceIdeal Cert.ReferenceIdeal.Gen Cert.ReferenceIdeal.Value in
/-- The term that a run of the reference leaves in its result is the result of its two arguments. -/
theorem run_result (V : Valuation τ sig (Elt Ideal)) :
    normalised (res_main_v161 V) = result (V (Proc.devRef .tc main_arg0)) (V (Proc.devRef .tc main_arg1)) := rfl

/-- From equal arguments that meet the precondition, the kernel's result and the reference's are the same. -/
theorem algebraic : Cert.algebraic_KernelIdeal_ReferenceIdeal_pre_general_position := by
  intro m g m' g' hpre hagree
  refine ⟨_, Cert.KernelIdeal.Value.run_blocks m g, ?_⟩
  refine (θ_run Cert.ReferenceIdeal.defs _ _).mono (fun _ h c => ⟨(h c).1.trans ?_, (h c).2⟩)
    (Cert.ReferenceIdeal.Value.run (F := Ideal) m' g')
  obtain ⟨X, hX, hw, hA⟩ := of_precondition (hpre c)
  refine Eq.trans ?_ (array_eq m c X hX hA).symm
  refine (run_result (launchContents m' c)).trans (funext fun y => ?_)
  have e0 : launchContents m' c (Proc.devRef .tc Cert.ReferenceIdeal.main_arg0) =
      m ((c.tc : Thread Cert.KernelIdeal.nD Cert.KernelIdeal.τ).loc Cert.KernelIdeal.main_arg0) := (hagree c).1
  have e1 : launchContents m' c (Proc.devRef .tc Cert.ReferenceIdeal.main_arg1) =
      m ((c.tc : Thread Cert.KernelIdeal.nD Cert.KernelIdeal.τ).loc Cert.KernelIdeal.main_arg1) := (hagree c).2
  rw [e0, e1]
  exact result_eq hX hw y

end Cert.Hog

end
-- ==== Proof.lean ====
/-
  The proof of `Cert.Claim`: the facts of the programs' shapes, then each claim from Proof/Claims.lean. The mathematics is in
  Proof/Angle.lean, Proof/Edges.lean and Proof/Model.lean; the kernel's side in Proof/Kernel*.lean; the reference's in
  Proof/Padding.lean, Proof/Stencil.lean, Proof/Direction.lean and Proof/Reference.lean; the precondition's in
  Proof/Position.lean.
-/
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import proofs.«01_k».proof.Proof.Gen.Pre_general_position
public import Idealize.ShloMosaic.Adequacy
public import Idealize.ShloMosaic.Init

@[expose] public section

noncomputable section

namespace Cert.Proof

open Idealize.ShloMosaic Idealize.SL.Sem

/-- Everything that is claimed of the kernel and the reference. -/
theorem claim : Cert.Claim :=
  ⟨Cert.Kernel.Gen.facts, Cert.KernelIdeal.Gen.facts, Cert.ReferenceIdeal.Gen.facts, Cert.Pre_general_position.Gen.facts,
    Cert.Hog.frame_p, Cert.Hog.frame_pi, Cert.Hog.frame_pi_pre, Cert.Hog.frame_ri, Cert.Hog.frame_ri_pre,
    Cert.Hog.preserves, Cert.Hog.algebraic⟩

end Cert.Proof

end
